-- ==== Defs.lean ====
def Pre_Kernel (m : (ℓ : Loc Cert.Kernel.nD Cert.Kernel.τ Cert.Kernel.sig) → Buf (Elt Bits) ℓ) : Prop :=
  True

def Pre_Kernel_regular [hPre_regular : Cert.Pre_regular.Facts] (m : (ℓ : Loc Cert.Kernel.nD Cert.Kernel.τ Cert.Kernel.sig) → Buf (Elt Bits) ℓ) : Prop :=
  ∀ c : Dev Cert.Kernel.nD,
    (Cert.Pre_regular.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_regular : Cert.Pre_regular.Facts] (m : (ℓ : Loc Cert.KernelIdeal.nD Cert.KernelIdeal.τ Cert.KernelIdeal.sig) → Buf (Elt Ideal) ℓ) : Prop :=
  ∀ c : Dev Cert.KernelIdeal.nD,
    (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_regular [hPre_regular : Cert.Pre_regular.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))
      ∧ r.2.sem = fun _ => 0)

def quiescent_Kernel_pre_regular [hKernel : Cert.Kernel.Facts] [hPre_regular : Cert.Pre_regular.Facts] : Prop :=
  ∀ (m : (ℓ : Loc Cert.Kernel.nD Cert.Kernel.τ Cert.Kernel.sig) → Buf (Elt Bits) ℓ) (g : Dev Cert.Kernel.nD → PrngReg), Pre_Kernel_regular m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))
      ∧ r.2.sem = fun _ => 0)

def quiescent_KernelIdeal [hKernelIdeal : Cert.KernelIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def quiescent_ReferenceIdeal_pre_regular [hReferenceIdeal : Cert.ReferenceIdeal.Facts] [hPre_regular : Cert.Pre_regular.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_regular m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v44)) (v1 : (c : Dev Cert.KernelIdeal.nD) → Buf (Elt Ideal) ((c.tc : Thread Cert.KernelIdeal.nD Cert.KernelIdeal.τ).loc Cert.KernelIdeal.main_v43_0)) (v2 : (c : Dev Cert.KernelIdeal.nD) → Buf (Elt Ideal) ((c.tc : Thread Cert.KernelIdeal.nD Cert.KernelIdeal.τ).loc Cert.KernelIdeal.main_v33_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_v43_0) = v1 c
          ∧ r.2.mem ((c.tc : Thread Cert.KernelIdeal.nD Cert.KernelIdeal.τ).loc Cert.KernelIdeal.main_v33_5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_v127) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_regular : Cert.Pre_regular.Facts),
    quiescent_Kernel (hKernel := hKernel)
    ∧ quiescent_Kernel_pre_regular (hKernel := hKernel) (hPre_regular := hPre_regular)
    ∧ quiescent_KernelIdeal (hKernelIdeal := hKernelIdeal) (hPre_regular := hPre_regular)
    ∧ quiescent_ReferenceIdeal (hReferenceIdeal := hReferenceIdeal)
    ∧ quiescent_ReferenceIdeal_pre_regular (hReferenceIdeal := hReferenceIdeal) (hPre_regular := hPre_regular)
    ∧ preserves_Kernel_KernelIdeal
    ∧ algebraic_KernelIdeal_ReferenceIdeal (hKernelIdeal := hKernelIdeal) (hReferenceIdeal := hReferenceIdeal) (hPre_regular := hPre_regular)
-- ==== Pre_regular.lean ====
abbrev S4x513x3 : Shape := ⟨3, ![4, 513, 3]⟩
abbrev S4x513x256 : Shape := ⟨3, ![4, 513, 256]⟩
abbrev S512x256 : Shape := ⟨2, ![512, 256]⟩
abbrev S512 : Shape := ⟨1, ![512]⟩
abbrev S256x512 : Shape := ⟨2, ![256, 512]⟩
abbrev S256 : Shape := ⟨1, ![256]⟩
abbrev S512x3 : Shape := ⟨2, ![512, 3]⟩
abbrev S512x512 : Shape := ⟨2, ![512, 512]⟩
abbrev S_ : Shape := ⟨0, ![]⟩
abbrev S4x512x3 : Shape := ⟨3, ![4, 512, 3]⟩
abbrev S4x512 : Shape := ⟨2, ![4, 512]⟩
abbrev S4x512x1 : Shape := ⟨3, ![4, 512, 1]⟩
abbrev S4x1x512 : Shape := ⟨3, ![4, 1, 512]⟩
abbrev S4x512x512 : Shape := ⟨3, ![4, 512, 512]⟩
abbrev S4x512x511 : Shape := ⟨3, ![4, 512, 511]⟩

class Facts : Prop where
  bcast_S_S4x513x3 : S_.BroadcastsInDim S4x513x3 (![] : Fin 0 → Fin S4x513x3.rank)
  reducesTo_S4x513x3_S_d0_1_2 : S4x513x3.ReducesTo [0, 1, 2] S_
  h_S_ : 0 < S_.numel
  bcast_S_S4x513x256 : S_.BroadcastsInDim S4x513x256 (![] : Fin 0 → Fin S4x513x256.rank)
  reducesTo_S4x513x256_S_d0_1_2 : S4x513x256.ReducesTo [0, 1, 2] S_
  bcast_S_S512x256 : S_.BroadcastsInDim S512x256 (![] : Fin 0 → Fin S512x256.rank)
  reducesTo_S512x256_S_d0_1 : S512x256.ReducesTo [0, 1] S_
  bcast_S_S512x3 : S_.BroadcastsInDim S512x3 (![] : Fin 0 → Fin S512x3.rank)
  reducesTo_S512x3_S_d0_1 : S512x3.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S256 : S_.BroadcastsInDim S256 (![] : Fin 0 → Fin S256.rank)
  reducesTo_S256_S_d0 : S256.ReducesTo [0] S_
  slices_S4x513x3_S4x512x3_0_1_0 : S4x513x3.Slices ![0, 1, 0] S4x512x3
  reducesTo_S4x512x3_S4x512_d2 : S4x512x3.ReducesTo [2] S4x512
  bcast_S4x512_S4x512x1_0_1 : S4x512.BroadcastsInDim S4x512x1 (![0, 1] : Fin 2 → Fin S4x512x1.rank)
  bcast_S4x512_S4x1x512_0_2 : S4x512.BroadcastsInDim S4x1x512 (![0, 2] : Fin 2 → Fin S4x1x512.rank)
  bcast_S4x512x1_S4x512x512_0_1_2 : S4x512x1.BroadcastsInDim S4x512x512 (![0, 1, 2] : Fin 3 → Fin S4x512x512.rank)
  bcast_S4x1x512_S4x512x512_0_1_2 : S4x1x512.BroadcastsInDim S4x512x512 (![0, 1, 2] : Fin 3 → Fin S4x512x512.rank)
  bcast_S_S4x512x512 : S_.BroadcastsInDim S4x512x512 (![] : Fin 0 → Fin S4x512x512.rank)
  slices_S4x512x512_S4x512x511_0_0_0 : S4x512x512.Slices ![0, 0, 0] S4x512x511
  slices_S4x512x512_S4x512x511_0_0_1 : S4x512x512.Slices ![0, 0, 1] S4x512x511
  reducesTo_S4x512x511_S_d0_1_2 : S4x512x511.ReducesTo [0, 1, 2] S_
  dot_S4x512x3_S4x512x3_S4x512x512_2_2_1_1_0_0_wf : DotDims.WF S4x512x3 S4x512x3 S4x512x512 [2] [2] [1] [1] [0] [0]

variable [Facts]

variable {F : FTy → Type} [FloatOps F]
def dot_S4x512x3_S4x512x3_S4x512x512_2_2_1_1_0_0 : DotDims S4x512x3 S4x512x3 S4x512x512 where
  lhsContracting := [2]
  rhsContracting := [2]
  lhsNonContracting := [1]
  rhsNonContracting := [1]
  lhsBatch := [0]
  rhsBatch := [0]
  wf := dot_S4x512x3_S4x512x3_S4x512x512_2_2_1_1_0_0_wf
def comparator_f32_d2 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_sort {F : FTy → Type} [FloatOps F] (arg0 : FVec F S4x512x512 .f32) : FVec F S4x512x512 .f32 :=
  let v0 : FVec F S4x512x512 .f32 := (fun x => Host.sort S4x512x512 2 comparator_f32_d2 x) arg0
  v0

def fn_part5 {F : FTy → Type} [FloatOps F] (main_v43 : IVec S_ 1) (main_v74 : IVec S_ 1) (main_v75 : FVec F S4x512x3 .f32) (main_v82 : FVec F S4x512x512 .f32) (main_v83 : FVec F S4x512x512 .f32) : IVec S_ 1 :=
  let main_v84 : FVec F S4x512x512 .f32 := addf main_v82 main_v83
  let main_v85 : FVec F S4x512x512 .f32 := (fun l r => Host.dotGeneral dot_S4x512x3_S4x512x3_S4x512x512_2_2_1_1_0_0 none l r) main_v75 main_v75
  let main_cst_34 : FVec F S_ .f32 := constant S_ .f32 0x40000000#32
  let main_v86 : FVec F S4x512x512 .f32 := broadcastInDim S4x512x512 ![] bcast_S_S4x512x512 main_cst_34
  let main_v87 : FVec F S4x512x512 .f32 := mulf main_v86 main_v85
  let main_v88 : FVec F S4x512x512 .f32 := subf main_v84 main_v87
  let main_v89 : FVec F S4x512x512 .f32 := fn_sort (F := F) main_v88
  let main_v90 : FVec F S4x512x511 .f32 := (extractStridedSlice S4x512x511 ![0, 0, 0] · slices_S4x512x512_S4x512x511_0_0_0) main_v89
  let main_v91 : FVec F S4x512x511 .f32 := (extractStridedSlice S4x512x511 ![0, 0, 1] · slices_S4x512x512_S4x512x511_0_0_1) main_v89
  let main_v92 : IVec S4x512x511 1 := cmpf .olt main_v90 main_v91
  let main_c_35 : IVec S_ 1 := constantI S_ 1 1#1
  let main_v93 : IVec S_ 1 := (fun x v => Host.reduce IntOp.andi x v reducesTo_S4x512x511_S_d0_1_2 h_S_) main_v92 main_c_35
  let main_v94 : IVec S_ 1 := andi main_v43 main_v74
  let main_v95 : IVec S_ 1 := andi main_v94 main_v93
  main_v95

def fn_part4 {F : FTy → Type} [FloatOps F] (main_arg0 : FVec F S4x513x3 .f32) (main_arg20 : FVec F S256 .f32) (main_v43 : IVec S_ 1) (main_v46 : IVec S_ 1) (main_v49 : IVec S_ 1) (main_v52 : IVec S_ 1) (main_v55 : IVec S_ 1) (main_v58 : IVec S_ 1) (main_v61 : IVec S_ 1) (main_v63 : IVec S512 1) (main_c_29 : IVec S_ 1) : IVec S_ 1 :=
  let main_v64 : IVec S_ 1 := (fun x v => Host.reduce IntOp.andi x v reducesTo_S512_S_d0 h_S_) main_v63 main_c_29
  let main_cst_30 : FVec F S_ .f32 := constant S_ .f32 0x00000000#32
  let main_v65 : FVec F S256 .f32 := broadcastInDim S256 ![] bcast_S_S256 main_cst_30
  let main_v66 : IVec S256 1 := cmpf .oeq main_arg20 main_v65
  let main_c_31 : IVec S_ 1 := constantI S_ 1 1#1
  let main_v67 : IVec S_ 1 := (fun x v => Host.reduce IntOp.andi x v reducesTo_S256_S_d0 h_S_) main_v66 main_c_31
  let main_v68 : IVec S_ 1 := andi main_v46 main_v49
  let main_v69 : IVec S_ 1 := andi main_v68 main_v52
  let main_v70 : IVec S_ 1 := andi main_v69 main_v55
  let main_v71 : IVec S_ 1 := andi main_v70 main_v58
  let main_v72 : IVec S_ 1 := andi main_v71 main_v61
  let main_v73 : IVec S_ 1 := andi main_v72 main_v64
  let main_v74 : IVec S_ 1 := andi main_v73 main_v67
  let main_v75 : FVec F S4x512x3 .f32 := (extractStridedSlice S4x512x3 ![0, 1, 0] · slices_S4x513x3_S4x512x3_0_1_0) main_arg0
  let main_v76 : FVec F S4x512x3 .f32 := mulf main_v75 main_v75
  let main_cst_32 : FVec F S_ .f32 := constant S_ .f32 0x00000000#32
  let main_v77 : FVec F S4x512 .f32 := (fun x v => Host.reduceAdd x v reducesTo_S4x512x3_S4x512_d2 h_S_) main_v76 main_cst_32
  let main_v78 : FVec F S4x512x1 .f32 := broadcastInDim S4x512x1 ![0, 1] bcast_S4x512_S4x512x1_0_1 main_v77
  let main_v79 : FVec F S4x512x3 .f32 := mulf main_v75 main_v75
  let main_cst_33 : FVec F S_ .f32 := constant S_ .f32 0x00000000#32
  let main_v80 : FVec F S4x512 .f32 := (fun x v => Host.reduceAdd x v reducesTo_S4x512x3_S4x512_d2 h_S_) main_v79 main_cst_33
  let main_v81 : FVec F S4x1x512 .f32 := broadcastInDim S4x1x512 ![0, 2] bcast_S4x512_S4x1x512_0_2 main_v80
  let main_v82 : FVec F S4x512x512 .f32 := broadcastInDim S4x512x512 ![0, 1, 2] bcast_S4x512x1_S4x512x512_0_1_2 main_v78
  let main_v83 : FVec F S4x512x512 .f32 := broadcastInDim S4x512x512 ![0, 1, 2] bcast_S4x1x512_S4x512x512_0_1_2 main_v81
  fn_part5 (F := F) main_v43 main_v74 main_v75 main_v82 main_v83

def fn_part3 {F : FTy → Type} [FloatOps F] (main_arg0 : FVec F S4x513x3 .f32) (main_arg7 : FVec F S512 .f32) (main_arg9 : FVec F S512 .f32) (main_arg11 : FVec F S512 .f32) (main_arg13 : FVec F S512 .f32) (main_arg18 : FVec F S512 .f32) (main_arg20 : FVec F S256 .f32) (main_v43 : IVec S_ 1) (main_v46 : IVec S_ 1) (main_v49 : IVec S_ 1) : IVec S_ 1 :=
  let main_cst_20 : FVec F S_ .f32 := constant S_ .f32 0x00000000#32
  let main_v50 : FVec F S512 .f32 := broadcastInDim S512 ![] bcast_S_S512 main_cst_20
  let main_v51 : IVec S512 1 := cmpf .oeq main_arg7 main_v50
  let main_c_21 : IVec S_ 1 := constantI S_ 1 1#1
  let main_v52 : IVec S_ 1 := (fun x v => Host.reduce IntOp.andi x v reducesTo_S512_S_d0 h_S_) main_v51 main_c_21
  let main_cst_22 : FVec F S_ .f32 := constant S_ .f32 0x00000000#32
  let main_v53 : FVec F S512 .f32 := broadcastInDim S512 ![] bcast_S_S512 main_cst_22
  let main_v54 : IVec S512 1 := cmpf .oeq main_arg9 main_v53
  let main_c_23 : IVec S_ 1 := constantI S_ 1 1#1
  let main_v55 : IVec S_ 1 := (fun x v => Host.reduce IntOp.andi x v reducesTo_S512_S_d0 h_S_) main_v54 main_c_23
  let main_cst_24 : FVec F S_ .f32 := constant S_ .f32 0x00000000#32
  let main_v56 : FVec F S512 .f32 := broadcastInDim S512 ![] bcast_S_S512 main_cst_24
  let main_v57 : IVec S512 1 := cmpf .oeq main_arg11 main_v56
  let main_c_25 : IVec S_ 1 := constantI S_ 1 1#1
  let main_v58 : IVec S_ 1 := (fun x v => Host.reduce IntOp.andi x v reducesTo_S512_S_d0 h_S_) main_v57 main_c_25
  let main_cst_26 : FVec F S_ .f32 := constant S_ .f32 0x00000000#32
  let main_v59 : FVec F S512 .f32 := broadcastInDim S512 ![] bcast_S_S512 main_cst_26
  let main_v60 : IVec S512 1 := cmpf .oeq main_arg13 main_v59
  let main_c_27 : IVec S_ 1 := constantI S_ 1 1#1
  let main_v61 : IVec S_ 1 := (fun x v => Host.reduce IntOp.andi x v reducesTo_S512_S_d0 h_S_) main_v60 main_c_27
  let main_cst_28 : FVec F S_ .f32 := constant S_ .f32 0x00000000#32
  let main_v62 : FVec F S512 .f32 := broadcastInDim S512 ![] bcast_S_S512 main_cst_28
  let main_v63 : IVec S512 1 := cmpf .oeq main_arg18 main_v62
  let main_c_29 : IVec S_ 1 := constantI S_ 1 1#1
  fn_part4 (F := F) main_arg0 main_arg20 main_v43 main_v46 main_v49 main_v52 main_v55 main_v58 main_v61 main_v63 main_c_29

def fn_part2 {F : FTy → Type} [FloatOps F] (main_arg0 : FVec F S4x513x3 .f32) (main_arg3 : FVec F S512 .f32) (main_arg5 : FVec F S256 .f32) (main_arg7 : FVec F S512 .f32) (main_arg9 : FVec F S512 .f32) (main_arg11 : FVec F S512 .f32) (main_arg13 : FVec F S512 .f32) (main_arg15 : FVec F S512x512 .f32) (main_arg18 : FVec F S512 .f32) (main_arg20 : FVec F S256 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S512x512 .f32 := Host.absf main_arg15
  let main_cst_14 : FVec F S_ .f32 := constant S_ .f32 0x7F800000#32
  let main_v33 : FVec F S512x512 .f32 := broadcastInDim S512x512 ![] bcast_S_S512x512 main_cst_14
  let main_v34 : IVec S512x512 1 := cmpf .olt main_v32 main_v33
  let main_c_15 : IVec S_ 1 := constantI S_ 1 1#1
  let main_v35 : IVec S_ 1 := (fun x v => Host.reduce IntOp.andi x v reducesTo_S512x512_S_d0_1 h_S_) main_v34 main_c_15
  let main_v36 : IVec S_ 1 := andi main_v3 main_v7
  let main_v37 : IVec S_ 1 := andi main_v36 main_v11
  let main_v38 : IVec S_ 1 := andi main_v37 main_v15
  let main_v39 : IVec S_ 1 := andi main_v38 main_v19
  let main_v40 : IVec S_ 1 := andi main_v39 main_v23
  let main_v41 : IVec S_ 1 := andi main_v40 main_v27
  let main_v42 : IVec S_ 1 := andi main_v41 main_v31
  let main_v43 : IVec S_ 1 := andi main_v42 main_v35
  let main_cst_16 : FVec F S_ .f32 := constant S_ .f32 0x00000000#32
  let main_v44 : FVec F S512 .f32 := broadcastInDim S512 ![] bcast_S_S512 main_cst_16
  let main_v45 : IVec S512 1 := cmpf .oeq main_arg3 main_v44
  let main_c_17 : IVec S_ 1 := constantI S_ 1 1#1
  let main_v46 : IVec S_ 1 := (fun x v => Host.reduce IntOp.andi x v reducesTo_S512_S_d0 h_S_) main_v45 main_c_17
  let main_cst_18 : FVec F S_ .f32 := constant S_ .f32 0x00000000#32
  let main_v47 : FVec F S256 .f32 := broadcastInDim S256 ![] bcast_S_S256 main_cst_18
  let main_v48 : IVec S256 1 := cmpf .oeq main_arg5 main_v47
  let main_c_19 : IVec S_ 1 := constantI S_ 1 1#1
  let main_v49 : IVec S_ 1 := (fun x v => Host.reduce IntOp.andi x v reducesTo_S256_S_d0 h_S_) main_v48 main_c_19
  fn_part3 (F := F) main_arg0 main_arg7 main_arg9 main_arg11 main_arg13 main_arg18 main_arg20 main_v43 main_v46 main_v49

def fn_part1 {F : FTy → Type} [FloatOps F] (main_arg0 : FVec F S4x513x3 .f32) (main_arg3 : FVec F S512 .f32) (main_arg5 : FVec F S256 .f32) (main_arg7 : FVec F S512 .f32) (main_arg8 : FVec F S512x512 .f32) (main_arg9 : FVec F S512 .f32) (main_arg10 : FVec F S512x512 .f32) (main_arg11 : FVec F S512 .f32) (main_arg12 : FVec F S512x512 .f32) (main_arg13 : FVec F S512 .f32) (main_arg14 : FVec F S512x512 .f32) (main_arg15 : FVec F S512x512 .f32) (main_arg18 : FVec F S512 .f32) (main_arg20 : FVec F S256 .f32) (main_v3 : IVec S_ 1) (main_v7 : IVec S_ 1) (main_v11 : IVec S_ 1) (main_v15 : IVec S_ 1) : IVec S_ 1 :=
  let main_v16 : FVec F S512x512 .f32 := Host.absf main_arg8
  let main_cst_6 : FVec F S_ .f32 := constant S_ .f32 0x7F800000#32
  let main_v17 : FVec F S512x512 .f32 := broadcastInDim S512x512 ![] bcast_S_S512x512 main_cst_6
  let main_v18 : IVec S512x512 1 := cmpf .olt main_v16 main_v17
  let main_c_7 : IVec S_ 1 := constantI S_ 1 1#1
  let main_v19 : IVec S_ 1 := (fun x v => Host.reduce IntOp.andi x v reducesTo_S512x512_S_d0_1 h_S_) main_v18 main_c_7
  let main_v20 : FVec F S512x512 .f32 := Host.absf main_arg10
  let main_cst_8 : FVec F S_ .f32 := constant S_ .f32 0x7F800000#32
  let main_v21 : FVec F S512x512 .f32 := broadcastInDim S512x512 ![] bcast_S_S512x512 main_cst_8
  let main_v22 : IVec S512x512 1 := cmpf .olt main_v20 main_v21
  let main_c_9 : IVec S_ 1 := constantI S_ 1 1#1
  let main_v23 : IVec S_ 1 := (fun x v => Host.reduce IntOp.andi x v reducesTo_S512x512_S_d0_1 h_S_) main_v22 main_c_9
  let main_v24 : FVec F S512x512 .f32 := Host.absf main_arg12
  let main_cst_10 : FVec F S_ .f32 := constant S_ .f32 0x7F800000#32
  let main_v25 : FVec F S512x512 .f32 := broadcastInDim S512x512 ![] bcast_S_S512x512 main_cst_10
  let main_v26 : IVec S512x512 1 := cmpf .olt main_v24 main_v25
  let main_c_11 : IVec S_ 1 := constantI S_ 1 1#1
  let main_v27 : IVec S_ 1 := (fun x v => Host.reduce IntOp.andi x v reducesTo_S512x512_S_d0_1 h_S_) main_v26 main_c_11
  let main_v28 : FVec F S512x512 .f32 := Host.absf main_arg14
  let main_cst_12 : FVec F S_ .f32 := constant S_ .f32 0x7F800000#32
  let main_v29 : FVec F S512x512 .f32 := broadcastInDim S512x512 ![] bcast_S_S512x512 main_cst_12
  let main_v30 : IVec S512x512 1 := cmpf .olt main_v28 main_v29
  let main_c_13 : IVec S_ 1 := constantI S_ 1 1#1
  let main_v31 : IVec S_ 1 := (fun x v => Host.reduce IntOp.andi x v reducesTo_S512x512_S_d0_1 h_S_) main_v30 main_c_13
  fn_part2 (F := F) main_arg0 main_arg3 main_arg5 main_arg7 main_arg9 main_arg11 main_arg13 main_arg15 main_arg18 main_arg20 main_v3 main_v7 main_v11 main_v15 main_v19 main_v23 main_v27 main_v31

def fn {F : FTy → Type} [FloatOps F] (main_arg0 : FVec F S4x513x3 .f32) (main_arg1 : FVec F S4x513x256 .f32) (main_arg2 : FVec F S512x256 .f32) (main_arg3 : FVec F S512 .f32) (main_arg4 : FVec F S256x512 .f32) (main_arg5 : FVec F S256 .f32) (main_arg6 : FVec F S512x3 .f32) (main_arg7 : FVec F S512 .f32) (main_arg8 : FVec F S512x512 .f32) (main_arg9 : FVec F S512 .f32) (main_arg10 : FVec F S512x512 .f32) (main_arg11 : FVec F S512 .f32) (main_arg12 : FVec F S512x512 .f32) (main_arg13 : FVec F S512 .f32) (main_arg14 : FVec F S512x512 .f32) (main_arg15 : FVec F S512x512 .f32) (main_arg16 : FVec F S512x512 .f32) (main_arg17 : FVec F S512x256 .f32) (main_arg18 : FVec F S512 .f32) (main_arg19 : FVec F S256x512 .f32) (main_arg20 : FVec F S256 .f32) (main_arg21 : FVec F S512x512 .f32) (main_arg22 : FVec F S512x512 .f32) (main_arg23 : FVec F S512x512 .f32) : IVec S_ 1 :=
  let main_v0 : FVec F S4x513x3 .f32 := Host.absf main_arg0
  let main_cst : FVec F S_ .f32 := constant S_ .f32 0x7F800000#32
  let main_v1 : FVec F S4x513x3 .f32 := broadcastInDim S4x513x3 ![] bcast_S_S4x513x3 main_cst
  let main_v2 : IVec S4x513x3 1 := cmpf .olt main_v0 main_v1
  let main_c : IVec S_ 1 := constantI S_ 1 1#1
  let main_v3 : IVec S_ 1 := (fun x v => Host.reduce IntOp.andi x v reducesTo_S4x513x3_S_d0_1_2 h_S_) main_v2 main_c
  let main_v4 : FVec F S4x513x256 .f32 := Host.absf main_arg1
  let main_cst_0 : FVec F S_ .f32 := constant S_ .f32 0x7F800000#32
  let main_v5 : FVec F S4x513x256 .f32 := broadcastInDim S4x513x256 ![] bcast_S_S4x513x256 main_cst_0
  let main_v6 : IVec S4x513x256 1 := cmpf .olt main_v4 main_v5
  let main_c_1 : IVec S_ 1 := constantI S_ 1 1#1
  let main_v7 : IVec S_ 1 := (fun x v => Host.reduce IntOp.andi x v reducesTo_S4x513x256_S_d0_1_2 h_S_) main_v6 main_c_1
  let main_v8 : FVec F S512x256 .f32 := Host.absf main_arg2
  let main_cst_2 : FVec F S_ .f32 := constant S_ .f32 0x7F800000#32
  let main_v9 : FVec F S512x256 .f32 := broadcastInDim S512x256 ![] bcast_S_S512x256 main_cst_2
  let main_v10 : IVec S512x256 1 := cmpf .olt main_v8 main_v9
  let main_c_3 : IVec S_ 1 := constantI S_ 1 1#1
  let main_v11 : IVec S_ 1 := (fun x v => Host.reduce IntOp.andi x v reducesTo_S512x256_S_d0_1 h_S_) main_v10 main_c_3
  let main_v12 : FVec F S512x3 .f32 := Host.absf main_arg6
  let main_cst_4 : FVec F S_ .f32 := constant S_ .f32 0x7F800000#32
  let main_v13 : FVec F S512x3 .f32 := broadcastInDim S512x3 ![] bcast_S_S512x3 main_cst_4
  let main_v14 : IVec S512x3 1 := cmpf .olt main_v12 main_v13
  let main_c_5 : IVec S_ 1 := constantI S_ 1 1#1
  let main_v15 : IVec S_ 1 := (fun x v => Host.reduce IntOp.andi x v reducesTo_S512x3_S_d0_1 h_S_) main_v14 main_c_5
  fn_part1 (F := F) main_arg0 main_arg3 main_arg5 main_arg7 main_arg8 main_arg9 main_arg10 main_arg11 main_arg12 main_arg13 main_arg14 main_arg15 main_arg18 main_arg20 main_v3 main_v7 main_v11 main_v15
-- ==== Kernel.lean ====
abbrev S4x513x3 : Shape := ⟨3, ![4, 513, 3]⟩
abbrev S4x513x256 : Shape := ⟨3, ![4, 513, 256]⟩
abbrev S512x256 : Shape := ⟨2, ![512, 256]⟩
abbrev S512 : Shape := ⟨1, ![512]⟩
abbrev S256x512 : Shape := ⟨2, ![256, 512]⟩
abbrev S256 : Shape := ⟨1, ![256]⟩
abbrev S512x3 : Shape := ⟨2, ![512, 3]⟩
abbrev S512x512 : Shape := ⟨2, ![512, 512]⟩
abbrev S4x512x3 : Shape := ⟨3, ![4, 512, 3]⟩
abbrev S4x1x256 : Shape := ⟨3, ![4, 1, 256]⟩
abbrev S4x512x256 : Shape := ⟨3, ![4, 512, 256]⟩
abbrev S3x512 : Shape := ⟨2, ![3, 512]⟩
abbrev S9x512 : Shape := ⟨2, ![9, 512]⟩
abbrev S4x3x512 : Shape := ⟨3, ![4, 3, 512]⟩
abbrev S4x512x16 : Shape := ⟨3, ![4, 512, 16]⟩
abbrev S4x512x512 : Shape := ⟨3, ![4, 512, 512]⟩
abbrev S4x1x512 : Shape := ⟨3, ![4, 1, 512]⟩
abbrev S1x512x3 : Shape := ⟨3, ![1, 512, 3]⟩
abbrev S1x3x512 : Shape := ⟨3, ![1, 3, 512]⟩
abbrev S1x512x256 : Shape := ⟨3, ![1, 512, 256]⟩
abbrev S1x1x256 : Shape := ⟨3, ![1, 1, 256]⟩
abbrev S1x512x16 : Shape := ⟨3, ![1, 512, 16]⟩
abbrev S1x512x512 : Shape := ⟨3, ![1, 512, 512]⟩
abbrev S1x1x512 : Shape := ⟨3, ![1, 1, 512]⟩
abbrev S512x1 : Shape := ⟨2, ![512, 1]⟩
abbrev S1x512 : Shape := ⟨2, ![1, 512]⟩
abbrev S512x16 : Shape := ⟨2, ![512, 16]⟩
abbrev S1x256 : Shape := ⟨2, ![1, 256]⟩
abbrev S1 : Shape := ⟨1, ![1]⟩
abbrev S1x1 : Shape := ⟨2, ![1, 1]⟩
abbrev S4x8192x1 : Shape := ⟨3, ![4, 8192, 1]⟩
abbrev S4x512x16x512 : Shape := ⟨4, ![4, 512, 16, 512]⟩
abbrev S1x2048x1 : Shape := ⟨3, ![1, 2048, 1]⟩
abbrev S1x128x512 : Shape := ⟨3, ![1, 128, 512]⟩
abbrev S1x128x256 : Shape := ⟨3, ![1, 128, 256]⟩
abbrev S1x128x3 : Shape := ⟨3, ![1, 128, 3]⟩
abbrev S1x128x16x512 : Shape := ⟨4, ![1, 128, 16, 512]⟩
abbrev S2048x1 : Shape := ⟨2, ![2048, 1]⟩
abbrev S2048x512 : Shape := ⟨2, ![2048, 512]⟩
abbrev S2048x3 : Shape := ⟨2, ![2048, 3]⟩
abbrev S128x3 : Shape := ⟨2, ![128, 3]⟩
abbrev S128x1x3 : Shape := ⟨3, ![128, 1, 3]⟩
abbrev S128x16x3 : Shape := ⟨3, ![128, 16, 3]⟩
abbrev S2048x9 : Shape := ⟨2, ![2048, 9]⟩
abbrev S128x16x512 : Shape := ⟨3, ![128, 16, 512]⟩
abbrev S128x512 : Shape := ⟨2, ![128, 512]⟩
abbrev S128x1x512 : Shape := ⟨3, ![128, 1, 512]⟩
abbrev S128x256 : Shape := ⟨2, ![128, 256]⟩

abbrev nBuf : Space → Nat
  | .hbm => 75
  | .vmem => 54
  | .smem => 0
  | _ => 0

abbrev bufTy : (tb : Table) → Fin (tcTables nBuf tb) → BufTy
  | .hbm, ⟨0, _⟩ => ⟨S4x513x3, .f32⟩
  | .hbm, ⟨1, _⟩ => ⟨S4x513x256, .f32⟩
  | .hbm, ⟨2, _⟩ => ⟨S512x256, .f32⟩
  | .hbm, ⟨3, _⟩ => ⟨S512, .f32⟩
  | .hbm, ⟨4, _⟩ => ⟨S256x512, .f32⟩
  | .hbm, ⟨5, _⟩ => ⟨S256, .f32⟩
  | .hbm, ⟨6, _⟩ => ⟨S512x3, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S512x512, .f32⟩
  | .hbm, ⟨13, _⟩ => ⟨S512, .f32⟩
  | .hbm, ⟨14, _⟩ => ⟨S512x512, .f32⟩
  | .hbm, ⟨15, _⟩ => ⟨S512x512, .f32⟩
  | .hbm, ⟨16, _⟩ => ⟨S512x512, .f32⟩
  | .hbm, ⟨17, _⟩ => ⟨S512x256, .f32⟩
  | .hbm, ⟨18, _⟩ => ⟨S512, .f32⟩
  | .hbm, ⟨19, _⟩ => ⟨S256x512, .f32⟩
  | .hbm, ⟨20, _⟩ => ⟨S256, .f32⟩
  | .hbm, ⟨21, _⟩ => ⟨S512x512, .f32⟩
  | .hbm, ⟨22, _⟩ => ⟨S512x512, .f32⟩
  | .hbm, ⟨23, _⟩ => ⟨S512x512, .f32⟩
  | .hbm, ⟨24, _⟩ => ⟨S4x512x3, .f32⟩
  | .hbm, ⟨25, _⟩ => ⟨S4x1x256, .f32⟩
  | .hbm, ⟨26, _⟩ => ⟨S4x512x256, .f32⟩
  | .hbm, ⟨27, _⟩ => ⟨S4x512x3, .bf16⟩
  | .hbm, ⟨28, _⟩ => ⟨S4x512x3, .f32⟩
  | .hbm, ⟨29, _⟩ => ⟨S4x512x3, .f32⟩
  | .hbm, ⟨30, _⟩ => ⟨S4x512x3, .bf16⟩
  | .hbm, ⟨31, _⟩ => ⟨S3x512, .f32⟩
  | .hbm, ⟨32, _⟩ => ⟨S3x512, .bf16⟩
  | .hbm, ⟨33, _⟩ => ⟨S3x512, .f32⟩
  | .hbm, ⟨34, _⟩ => ⟨S3x512, .f32⟩
  | .hbm, ⟨35, _⟩ => ⟨S3x512, .f32⟩
  | .hbm, ⟨36, _⟩ => ⟨S3x512, .bf16⟩
  | .hbm, ⟨37, _⟩ => ⟨S9x512, .bf16⟩
  | .hbm, ⟨38, _⟩ => ⟨S4x3x512, .f32⟩
  | .hbm, ⟨39, _⟩ => ⟨S256x512, .f32⟩
  | .hbm, ⟨40, _⟩ => ⟨S256x512, .bf16⟩
  | .hbm, ⟨41, _⟩ => ⟨S512x512, .f32⟩
  | .hbm, ⟨42, _⟩ => ⟨S512x512, .bf16⟩
  | .hbm, ⟨43, _⟩ => ⟨S512x512, .f32⟩
  | .hbm, ⟨44, _⟩ => ⟨S512x512, .bf16⟩
  | .hbm, ⟨45, _⟩ => ⟨S512x512, .f32⟩
  | .hbm, ⟨46, _⟩ => ⟨S512x512, .bf16⟩
  | .hbm, ⟨47, _⟩ => ⟨S256x512, .f32⟩
  | .hbm, ⟨48, _⟩ => ⟨S256x512, .bf16⟩
  | .hbm, ⟨49, _⟩ => ⟨S512x512, .f32⟩
  | .hbm, ⟨50, _⟩ => ⟨S512x512, .bf16⟩
  | .hbm, ⟨51, _⟩ => ⟨S512x512, .f32⟩
  | .hbm, ⟨52, _⟩ => ⟨S512x512, .bf16⟩
  | .hbm, ⟨53, _⟩ => ⟨S512x512, .f32⟩
  | .hbm, ⟨54, _⟩ => ⟨S512x512, .bf16⟩
  | .hbm, ⟨55, _⟩ => ⟨S512x256, .f32⟩
  | .hbm, ⟨56, _⟩ => ⟨S512x256, .bf16⟩
  | .hbm, ⟨57, _⟩ => ⟨S4x512x16, .i32⟩
  | .hbm, ⟨58, _⟩ => ⟨S4x512x512, .f32⟩
  | .hbm, ⟨59, _⟩ => ⟨S4x512x512, .bf16⟩
  | .hbm, ⟨60, _⟩ => ⟨S4x512x512, .bf16⟩
  | .hbm, ⟨61, _⟩ => ⟨S4x1x256, .f32⟩
  | .hbm, ⟨62, _⟩ => ⟨S4x1x512, .f32⟩
  | .hbm, ⟨63, _⟩ => ⟨S4x8192x1, .i32⟩
  | .hbm, ⟨64, _⟩ => ⟨S512x512, .f32⟩
  | .hbm, ⟨65, _⟩ => ⟨S512x512, .bf16⟩
  | .hbm, ⟨66, _⟩ => ⟨S512x512, .f32⟩
  | .hbm, ⟨67, _⟩ => ⟨S512x512, .bf16⟩
  | .hbm, ⟨68, _⟩ => ⟨S512x512, .f32⟩
  | .hbm, ⟨69, _⟩ => ⟨S512x512, .bf16⟩
  | .hbm, ⟨70, _⟩ => ⟨S512x256, .f32⟩
  | .hbm, ⟨71, _⟩ => ⟨S512x256, .bf16⟩
  | .hbm, ⟨72, _⟩ => ⟨S4x512x16x512, .f32⟩
  | .hbm, ⟨73, _⟩ => ⟨S4x512x256, .f32⟩
  | .hbm, ⟨74, _⟩ => ⟨S4x513x256, .f32⟩
  | .local _ .vmem, ⟨0, _⟩ => ⟨S1x512x3, .f32⟩
  | .local _ .vmem, ⟨1, _⟩ => ⟨S1x512x3, .f32⟩
  | .local _ .vmem, ⟨2, _⟩ => ⟨S1x3x512, .f32⟩
  | .local _ .vmem, ⟨3, _⟩ => ⟨S1x3x512, .f32⟩
  | .local _ .vmem, ⟨4, _⟩ => ⟨S1x512x256, .f32⟩
  | .local _ .vmem, ⟨5, _⟩ => ⟨S1x512x256, .f32⟩
  | .local _ .vmem, ⟨6, _⟩ => ⟨S1x1x256, .f32⟩
  | .local _ .vmem, ⟨7, _⟩ => ⟨S1x1x256, .f32⟩
  | .local _ .vmem, ⟨8, _⟩ => ⟨S256x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S256x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x256, .bf16⟩
  | .local _ .vmem, ⟨17, _⟩ => ⟨S1x512x16, .i32⟩
  | .local _ .vmem, ⟨18, _⟩ => ⟨S1x512x16, .i32⟩
  | .local _ .vmem, ⟨19, _⟩ => ⟨S1x512x512, .f32⟩
  | .local _ .vmem, ⟨20, _⟩ => ⟨S1x512x512, .f32⟩
  | .local _ .vmem, ⟨21, _⟩ => ⟨S1x512x512, .bf16⟩
  | .local _ .vmem, ⟨22, _⟩ => ⟨S1x512x512, .bf16⟩
  | .local _ .vmem, ⟨23, _⟩ => ⟨S1x512x512, .bf16⟩
  | .local _ .vmem, ⟨24, _⟩ => ⟨S1x512x512, .bf16⟩
  | .local _ .vmem, ⟨25, _⟩ => ⟨S1x1x256, .f32⟩
  | .local _ .vmem, ⟨26, _⟩ => ⟨S1x1x256, .f32⟩
  | .local _ .vmem, ⟨27, _⟩ => ⟨S1x1x512, .f32⟩
  | .local _ .vmem, ⟨28, _⟩ => ⟨S1x1x512, .f32⟩
  | .local _ .vmem, ⟨29, _⟩ => ⟨S1x2048x1, .i32⟩
  | .local _ .vmem, ⟨30, _⟩ => ⟨S1x2048x1, .i32⟩
  | .local _ .vmem, ⟨31, _⟩ => ⟨S1x128x512, .f32⟩
  | .local _ .vmem, ⟨32, _⟩ => ⟨S1x128x512, .f32⟩
  | .local _ .vmem, ⟨33, _⟩ => ⟨S1x128x256, .f32⟩
  | .local _ .vmem, ⟨34, _⟩ => ⟨S1x128x256, .f32⟩
  | .local _ .vmem, ⟨35, _⟩ => ⟨S1x128x3, .f32⟩
  | .local _ .vmem, ⟨36, _⟩ => ⟨S1x128x3, .f32⟩
  | .local _ .vmem, ⟨37, _⟩ => ⟨S1x512x512, .bf16⟩
  | .local _ .vmem, ⟨38, _⟩ => ⟨S1x512x512, .bf16⟩
  | .local _ .vmem, ⟨39, _⟩ => ⟨S1x512x512, .bf16⟩
  | .local _ .vmem, ⟨40, _⟩ => ⟨S1x512x512, .bf16⟩
  | .local _ .vmem, ⟨41, _⟩ => ⟨S1x512x3, .bf16⟩
  | .local _ .vmem, ⟨42, _⟩ => ⟨S1x512x3, .bf16⟩
  | .local _ .vmem, ⟨43, _⟩ => ⟨S1x512x3, .bf16⟩
  | .local _ .vmem, ⟨44, _⟩ => ⟨S1x512x3, .bf16⟩
  | .local _ .vmem, ⟨45, _⟩ => ⟨S9x512, .bf16⟩
  | .local _ .vmem, ⟨46, _⟩ => ⟨S512x512, .bf16⟩
  | .local _ .vmem, ⟨47, _⟩ => ⟨S512x512, .bf16⟩
  | .local _ .vmem, ⟨48, _⟩ => ⟨S512x512, .bf16⟩
  | .local _ .vmem, ⟨49, _⟩ => ⟨S512x256, .bf16⟩
  | .local _ .vmem, ⟨50, _⟩ => ⟨S1x128x16x512, .f32⟩
  | .local _ .vmem, ⟨51, _⟩ => ⟨S1x128x16x512, .f32⟩
  | .local _ .vmem, ⟨52, _⟩ => ⟨S1x128x256, .f32⟩
  | .local _ .vmem, ⟨53, _⟩ => ⟨S1x128x256, .f32⟩
  | _, _ => ⟨S4x513x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33_0 : Ref sig .tc := ⟨.hbm, 57, rfl⟩
abbrev main_v33_1 : Ref sig .tc := ⟨.hbm, 58, rfl⟩
abbrev main_v33_2 : Ref sig .tc := ⟨.hbm, 59, rfl⟩
abbrev main_v33_3 : Ref sig .tc := ⟨.hbm, 60, rfl⟩
abbrev main_v33_4 : Ref sig .tc := ⟨.hbm, 61, rfl⟩
abbrev main_v33_5 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43_0 : Ref sig .tc := ⟨.hbm, 72, rfl⟩
abbrev main_v43_1 : Ref sig .tc := ⟨.hbm, 73, rfl⟩
abbrev main_v44 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc1_stg0_0 : Ref sig .tc := ⟨.vmem, 29, rfl⟩
abbrev cc1_stg0_1 : Ref sig .tc := ⟨.vmem, 30, rfl⟩
abbrev cc1_stg1_0 : Ref sig .tc := ⟨.vmem, 31, rfl⟩
abbrev cc1_stg1_1 : Ref sig .tc := ⟨.vmem, 32, rfl⟩
abbrev cc1_stg2_0 : Ref sig .tc := ⟨.vmem, 33, rfl⟩
abbrev cc1_stg2_1 : Ref sig .tc := ⟨.vmem, 34, rfl⟩
abbrev cc1_stg3_0 : Ref sig .tc := ⟨.vmem, 35, rfl⟩
abbrev cc1_stg3_1 : Ref sig .tc := ⟨.vmem, 36, rfl⟩
abbrev cc1_stg4_0 : Ref sig .tc := ⟨.vmem, 37, rfl⟩
abbrev cc1_stg4_1 : Ref sig .tc := ⟨.vmem, 38, rfl⟩
abbrev cc1_stg5_0 : Ref sig .tc := ⟨.vmem, 39, rfl⟩
abbrev cc1_stg5_1 : Ref sig .tc := ⟨.vmem, 40, rfl⟩
abbrev cc1_stg6_0 : Ref sig .tc := ⟨.vmem, 41, rfl⟩
abbrev cc1_stg6_1 : Ref sig .tc := ⟨.vmem, 42, rfl⟩
abbrev cc1_stg7_0 : Ref sig .tc := ⟨.vmem, 43, rfl⟩
abbrev cc1_stg7_1 : Ref sig .tc := ⟨.vmem, 44, rfl⟩
abbrev cc1_stg8_0 : Ref sig .tc := ⟨.vmem, 45, rfl⟩
abbrev cc1_stg9_0 : Ref sig .tc := ⟨.vmem, 46, rfl⟩
abbrev cc1_stg10_0 : Ref sig .tc := ⟨.vmem, 47, rfl⟩
abbrev cc1_stg11_0 : Ref sig .tc := ⟨.vmem, 48, rfl⟩
abbrev cc1_stg12_0 : Ref sig .tc := ⟨.vmem, 49, rfl⟩
abbrev cc1_stg13_0 : Ref sig .tc := ⟨.vmem, 50, rfl⟩
abbrev cc1_stg13_1 : Ref sig .tc := ⟨.vmem, 51, rfl⟩
abbrev cc1_stg14_0 : Ref sig .tc := ⟨.vmem, 52, rfl⟩
abbrev cc1_stg14_1 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc1_sem0_0 : DmaSem sig := 29
abbrev cc1_sem0_1 : DmaSem sig := 30
abbrev cc1_sem1_0 : DmaSem sig := 31
abbrev cc1_sem1_1 : DmaSem sig := 32
abbrev cc1_sem2_0 : DmaSem sig := 33
abbrev cc1_sem2_1 : DmaSem sig := 34
abbrev cc1_sem3_0 : DmaSem sig := 35
abbrev cc1_sem3_1 : DmaSem sig := 36
abbrev cc1_sem4_0 : DmaSem sig := 37
abbrev cc1_sem4_1 : DmaSem sig := 38
abbrev cc1_sem5_0 : DmaSem sig := 39
abbrev cc1_sem5_1 : DmaSem sig := 40
abbrev cc1_sem6_0 : DmaSem sig := 41
abbrev cc1_sem6_1 : DmaSem sig := 42
abbrev cc1_sem7_0 : DmaSem sig := 43
abbrev cc1_sem7_1 : DmaSem sig := 44
abbrev cc1_sem8_0 : DmaSem sig := 45
abbrev cc1_sem9_0 : DmaSem sig := 46
abbrev cc1_sem10_0 : DmaSem sig := 47
abbrev cc1_sem11_0 : DmaSem sig := 48
abbrev cc1_sem12_0 : DmaSem sig := 49
abbrev cc1_sem13_0 : DmaSem sig := 50
abbrev cc1_sem13_1 : DmaSem sig := 51
abbrev cc1_sem14_0 : DmaSem sig := 52
abbrev cc1_sem14_1 : DmaSem sig := 53

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x512x16 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x1x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x1x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_14 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x2048x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x128x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x128x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x128x3 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x512x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x512x3 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x512x3 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 1 → Memref sig .tc .vmem S9x512 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S512x512 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S512x512 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 1 → Memref sig .tc .vmem S512x512 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 1 → Memref sig .tc .vmem S512x256 .bf16 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev stage1_13 : Fin 2 → Memref sig .tc .vmem S1x128x16x512 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]

abbrev stage1_14 : Fin 2 → Memref sig .tc .vmem S1x128x256 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, true]
-- ==== ReferenceIdeal.lean ====
abbrev S4x513x3 : Shape := ⟨3, ![4, 513, 3]⟩
abbrev S4x513x256 : Shape := ⟨3, ![4, 513, 256]⟩
abbrev S512x256 : Shape := ⟨2, ![512, 256]⟩
abbrev S512 : Shape := ⟨1, ![512]⟩
abbrev S256x512 : Shape := ⟨2, ![256, 512]⟩
abbrev S256 : Shape := ⟨1, ![256]⟩
abbrev S512x3 : Shape := ⟨2, ![512, 3]⟩
abbrev S512x512 : Shape := ⟨2, ![512, 512]⟩
abbrev S4x1x3 : Shape := ⟨3, ![4, 1, 3]⟩
abbrev S4x512x3 : Shape := ⟨3, ![4, 512, 3]⟩
abbrev S4x1x256 : Shape := ⟨3, ![4, 1, 256]⟩
abbrev S4x512x256 : Shape := ⟨3, ![4, 512, 256]⟩
abbrev S_ : Shape := ⟨0, ![]⟩
abbrev S4x512 : Shape := ⟨2, ![4, 512]⟩
abbrev S4x512x1 : Shape := ⟨3, ![4, 512, 1]⟩
abbrev S4x1x512 : Shape := ⟨3, ![4, 1, 512]⟩
abbrev S4x512x512 : Shape := ⟨3, ![4, 512, 512]⟩
abbrev S4x512x16 : Shape := ⟨3, ![4, 512, 16]⟩
abbrev S4x512x16x1 : Shape := ⟨4, ![4, 512, 16, 1]⟩
abbrev S4x512x16x3 : Shape := ⟨4, ![4, 512, 16, 3]⟩
abbrev S1x1x512 : Shape := ⟨3, ![1, 1, 512]⟩
abbrev S4x512x16x512 : Shape := ⟨4, ![4, 512, 16, 512]⟩
abbrev S4x512x1x3 : Shape := ⟨4, ![4, 512, 1, 3]⟩
abbrev S3x512 : Shape := ⟨2, ![3, 512]⟩
abbrev S1x1x1x512 : Shape := ⟨4, ![1, 1, 1, 512]⟩
abbrev S4x512x1x512 : Shape := ⟨4, ![4, 512, 1, 512]⟩
abbrev S1x1x256 : Shape := ⟨3, ![1, 1, 256]⟩
abbrev S4x1 : Shape := ⟨2, ![4, 1]⟩
abbrev S4x1x1 : Shape := ⟨3, ![4, 1, 1]⟩

abbrev nBuf : Space → Nat
  | .hbm => 183
  | .vmem => 0
  | .smem => 0
  | _ => 0

abbrev hbmTy0_0 (i : Nat) : BufTy := match i % 128 with
  | 0 => ⟨S4x513x3, .f32⟩
  | 1 => ⟨S4x513x256, .f32⟩
  | 2 => ⟨S512x256, .f32⟩
  | 3 => ⟨S512, .f32⟩
  | 4 => ⟨S256x512, .f32⟩
  | 5 => ⟨S256, .f32⟩
  | 6 => ⟨S512x3, .f32⟩
  | 7 => ⟨S512, .f32⟩
  | 8 => ⟨S512x512, .f32⟩
  | 9 => ⟨S512, .f32⟩
  | 10 => ⟨S512x512, .f32⟩
  | 11 => ⟨S512, .f32⟩
  | 12 => ⟨S512x512, .f32⟩
  | 13 => ⟨S512, .f32⟩
  | 14 => ⟨S512x512, .f32⟩
  | 15 => ⟨S512x512, .f32⟩
  | 16 => ⟨S512x512, .f32⟩
  | 17 => ⟨S512x256, .f32⟩
  | 18 => ⟨S512, .f32⟩
  | 19 => ⟨S256x512, .f32⟩
  | 20 => ⟨S256, .f32⟩
  | 21 => ⟨S512x512, .f32⟩
  | 22 => ⟨S512x512, .f32⟩
  | 23 => ⟨S512x512, .f32⟩
  | 24 => ⟨S4x1x3, .f32⟩
  | 25 => ⟨S4x512x3, .f32⟩
  | 26 => ⟨S4x1x256, .f32⟩
  | 27 => ⟨S4x512x256, .f32⟩
  | 28 => ⟨S4x512x3, .f32⟩
  | 29 => ⟨S_, .f32⟩
  | 30 => ⟨S4x512, .f32⟩
  | 31 => ⟨S4x512x1, .f32⟩
  | 32 => ⟨S4x512x3, .f32⟩
  | 33 => ⟨S_, .f32⟩
  | 34 => ⟨S4x512, .f32⟩
  | 35 => ⟨S4x1x512, .f32⟩
  | 36 => ⟨S4x512x512, .f32⟩
  | 37 => ⟨S4x512x512, .f32⟩
  | 38 => ⟨S4x512x512, .f32⟩
  | 39 => ⟨S4x512x512, .f32⟩
  | 40 => ⟨S_, .f32⟩
  | 41 => ⟨S4x512x512, .f32⟩
  | 42 => ⟨S4x512x512, .f32⟩
  | 43 => ⟨S4x512x512, .f32⟩
  | 44 => ⟨S4x512x512, .i32⟩
  | 45 => ⟨S4x512x512, .f32⟩
  | 46 => ⟨S4x512x512, .i32⟩
  | 47 => ⟨S4x512x16, .i32⟩
  | 48 => ⟨S_, .i32⟩
  | 49 => ⟨S4x512x16, .i32⟩
  | 50 => ⟨S4x512x16, .i1⟩
  | 51 => ⟨S_, .i32⟩
  | 52 => ⟨S4x512x16, .i32⟩
  | 53 => ⟨S4x512x16, .i32⟩
  | 54 => ⟨S4x512x16, .i32⟩
  | 55 => ⟨S4x512x16x1, .i32⟩
  | 56 => ⟨S4x512x16x3, .f32⟩
  | 57 => ⟨S256x512, .f32⟩
  | 58 => ⟨S4x512x512, .f32⟩
  | 59 => ⟨S1x1x512, .f32⟩
  | 60 => ⟨S4x512x512, .f32⟩
  | 61 => ⟨S4x512x512, .f32⟩
  | 62 => ⟨S512x512, .f32⟩
  | 63 => ⟨S4x512x512, .f32⟩
  | 64 => ⟨S512x512, .f32⟩
  | 65 => ⟨S4x512x512, .f32⟩
  | 66 => ⟨S_, .i32⟩
  | 67 => ⟨S4x512x16, .i32⟩
  | 68 => ⟨S4x512x16, .i1⟩
  | 69 => ⟨S_, .i32⟩
  | 70 => ⟨S4x512x16, .i32⟩
  | 71 => ⟨S4x512x16, .i32⟩
  | 72 => ⟨S4x512x16, .i32⟩
  | 73 => ⟨S4x512x16x1, .i32⟩
  | 74 => ⟨S4x512x16x512, .f32⟩
  | 75 => ⟨S512x512, .f32⟩
  | 76 => ⟨S4x512x512, .f32⟩
  | 77 => ⟨S_, .i32⟩
  | 78 => ⟨S4x512x16, .i32⟩
  | 79 => ⟨S4x512x16, .i1⟩
  | 80 => ⟨S_, .i32⟩
  | 81 => ⟨S4x512x16, .i32⟩
  | 82 => ⟨S4x512x16, .i32⟩
  | 83 => ⟨S4x512x16, .i32⟩
  | 84 => ⟨S4x512x16x1, .i32⟩
  | 85 => ⟨S4x512x16x512, .f32⟩
  | 86 => ⟨S4x512x1x3, .f32⟩
  | 87 => ⟨S4x512x16x3, .f32⟩
  | 88 => ⟨S4x512x16x3, .f32⟩
  | 89 => ⟨S3x512, .f32⟩
  | 90 => ⟨S4x512x16x512, .f32⟩
  | 91 => ⟨S1x1x1x512, .f32⟩
  | 92 => ⟨S4x512x16x512, .f32⟩
  | 93 => ⟨S4x512x16x512, .f32⟩
  | 94 => ⟨S_, .f32⟩
  | 95 => ⟨S4x512x16x512, .f32⟩
  | 96 => ⟨S4x512x16x512, .f32⟩
  | 97 => ⟨S512x512, .f32⟩
  | 98 => ⟨S4x512x16x512, .f32⟩
  | 99 => ⟨S1x1x1x512, .f32⟩
  | 100 => ⟨S4x512x16x512, .f32⟩
  | 101 => ⟨S4x512x16x512, .f32⟩
  | 102 => ⟨S4x512x1x512, .f32⟩
  | 103 => ⟨S4x512x16x512, .f32⟩
  | 104 => ⟨S4x512x16x512, .f32⟩
  | 105 => ⟨S4x512x16x512, .f32⟩
  | 106 => ⟨S512x512, .f32⟩
  | 107 => ⟨S4x512x16x512, .f32⟩
  | 108 => ⟨S1x1x1x512, .f32⟩
  | 109 => ⟨S4x512x16x512, .f32⟩
  | 110 => ⟨S4x512x16x512, .f32⟩
  | 111 => ⟨S_, .f32⟩
  | 112 => ⟨S4x512x16x512, .f32⟩
  | 113 => ⟨S4x512x16x512, .f32⟩
  | 114 => ⟨S512x512, .f32⟩
  | 115 => ⟨S4x512x16x512, .f32⟩
  | 116 => ⟨S1x1x1x512, .f32⟩
  | 117 => ⟨S4x512x16x512, .f32⟩
  | 118 => ⟨S4x512x16x512, .f32⟩
  | 119 => ⟨S_, .f32⟩
  | 120 => ⟨S_, .f32⟩
  | 121 => ⟨S4x512x16x512, .f32⟩
  | 122 => ⟨S4x512x16x512, .f32⟩
  | 123 => ⟨S_, .f32⟩
  | 124 => ⟨S4x512x512, .f32⟩
  | 125 => ⟨S_, .f32⟩
  | 126 => ⟨S4x512x512, .f32⟩
  | 127 => ⟨S4x512x512, .f32⟩
  | _ => ⟨S4x513x3, .f32⟩

abbrev hbmTy0_1 (i : Nat) : BufTy := match i % 128 with
  | 0 => ⟨S4x512x1x512, .f32⟩
  | 1 => ⟨S4x512x16x512, .f32⟩
  | 2 => ⟨S4x512x16x512, .f32⟩
  | 3 => ⟨S4x512x16x512, .f32⟩
  | 4 => ⟨S_, .f32⟩
  | 5 => ⟨S4x512x512, .f32⟩
  | 6 => ⟨S4x512x1x512, .f32⟩
  | 7 => ⟨S4x512x16x512, .f32⟩
  | 8 => ⟨S4x512x16x512, .f32⟩
  | 9 => ⟨S4x512x16x512, .f32⟩
  | 10 => ⟨S4x512x512, .f32⟩
  | 11 => ⟨S512x256, .f32⟩
  | 12 => ⟨S4x512x256, .f32⟩
  | 13 => ⟨S1x1x256, .f32⟩
  | 14 => ⟨S4x512x256, .f32⟩
  | 15 => ⟨S4x512x256, .f32⟩
  | 16 => ⟨S4x512x256, .f32⟩
  | 17 => ⟨S256x512, .f32⟩
  | 18 => ⟨S4x1x512, .f32⟩
  | 19 => ⟨S1x1x512, .f32⟩
  | 20 => ⟨S4x1x512, .f32⟩
  | 21 => ⟨S4x1x512, .f32⟩
  | 22 => ⟨S512x512, .f32⟩
  | 23 => ⟨S4x1x512, .f32⟩
  | 24 => ⟨S512x512, .f32⟩
  | 25 => ⟨S4x512x512, .f32⟩
  | 26 => ⟨S512x512, .f32⟩
  | 27 => ⟨S4x512x512, .f32⟩
  | 28 => ⟨S4x1x512, .f32⟩
  | 29 => ⟨S_, .f32⟩
  | 30 => ⟨S_, .f32⟩
  | 31 => ⟨S4x1x512, .f32⟩
  | 32 => ⟨S4x1x512, .f32⟩
  | 33 => ⟨S_, .f32⟩
  | 34 => ⟨S4x1, .f32⟩
  | 35 => ⟨S_, .f32⟩
  | 36 => ⟨S4x1, .f32⟩
  | 37 => ⟨S4x1, .f32⟩
  | 38 => ⟨S4x1x1, .f32⟩
  | 39 => ⟨S4x1x512, .f32⟩
  | 40 => ⟨S4x1x512, .f32⟩
  | 41 => ⟨S4x1x512, .f32⟩
  | 42 => ⟨S_, .f32⟩
  | 43 => ⟨S4x1, .f32⟩
  | 44 => ⟨S4x1x1, .f32⟩
  | 45 => ⟨S4x1x512, .f32⟩
  | 46 => ⟨S4x1x512, .f32⟩
  | 47 => ⟨S4x1x512, .f32⟩
  | 48 => ⟨S512x256, .f32⟩
  | 49 => ⟨S4x1x256, .f32⟩
  | 50 => ⟨S1x1x256, .f32⟩
  | 51 => ⟨S4x1x256, .f32⟩
  | 52 => ⟨S4x1x256, .f32⟩
  | 53 => ⟨S4x1x256, .f32⟩
  | 54 => ⟨S4x513x256, .f32⟩
  | _ => ⟨S4x513x3, .f32⟩

abbrev hbmTy (i : Nat) : BufTy := match i / 128 with
  | 0 => hbmTy0_0 i
  | 1 => hbmTy0_1 i
  | _ => ⟨S4x513x3, .f32⟩

abbrev bufTy : (tb : Table) → Fin (tcTables nBuf tb) → BufTy
  | .hbm, ⟨i, _⟩ => hbmTy i
  | _, _ => ⟨S4x513x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_cst : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_cst_0 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_cst_1 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_call0_v0 : Ref sig .tc := ⟨.hbm, 44, rfl⟩
abbrev main_call0_v1_0 : Ref sig .tc := ⟨.hbm, 45, rfl⟩
abbrev main_v17 : Ref sig .tc := ⟨.hbm, 46, rfl⟩
abbrev main_v18 : Ref sig .tc := ⟨.hbm, 47, rfl⟩
abbrev main_c : Ref sig .tc := ⟨.hbm, 48, rfl⟩
abbrev main_v19 : Ref sig .tc := ⟨.hbm, 49, rfl⟩
abbrev main_v20 : Ref sig .tc := ⟨.hbm, 50, rfl⟩
abbrev main_c_2 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_c_3 : Ref sig .tc := ⟨.hbm, 66, rfl⟩
abbrev main_v35 : Ref sig .tc := ⟨.hbm, 67, rfl⟩
abbrev main_v36 : Ref sig .tc := ⟨.hbm, 68, rfl⟩
abbrev main_c_4 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_c_5 : Ref sig .tc := ⟨.hbm, 77, rfl⟩
abbrev main_v44 : Ref sig .tc := ⟨.hbm, 78, rfl⟩
abbrev main_v45 : Ref sig .tc := ⟨.hbm, 79, rfl⟩
abbrev main_c_6 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_call1_cst : Ref sig .tc := ⟨.hbm, 94, rfl⟩
abbrev main_call1_v0 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_call2_cst : Ref sig .tc := ⟨.hbm, 111, rfl⟩
abbrev main_call2_v0 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_cst_7 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_cst_8 : Ref sig .tc := ⟨.hbm, 123, rfl⟩
abbrev main_v83 : Ref sig .tc := ⟨.hbm, 124, rfl⟩
abbrev main_cst_9 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_cst_10 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_cst_11 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_cst_12 : Ref sig .tc := ⟨.hbm, 161, rfl⟩
abbrev main_v117 : Ref sig .tc := ⟨.hbm, 162, rfl⟩
abbrev main_cst_13 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_cst_14 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩

abbrev nD : Nat := 1
abbrev τ : Topo := Topo.v7x

variable {F : FTy → Type} [FloatOps F]
-- ==== Proof.Pick.lean ====
/-
  Choosing the least entries of a row one after another, and the head of its stable sort.

  A row of distances is a function `d : Fin n → EReal`. One way to name its nearest columns is to sort the
  columns stably by their entries; another is to take a least entry (the first of them), strike it out by
  putting `⊤` in its place, and go on. The two ways agree as long as no entry is `⊤` to begin with.
-/
module

public import Idealize.ShloMosaic.Lib.SortPrefix
public import Mathlib.Data.EReal.Basic
public import Idealize.ShloMosaic.PureOps.Ideal

@[expose] public section

noncomputable section

namespace Cert.Knn

open Idealize.ShloMosaic

variable {n : Nat} [NeZero n]

open Classical in
/-- The columns at which a row is least are not none. -/
theorem leasts_nonempty (d : Fin n → EReal) : (Finset.univ.filter fun j => ∀ i, d j ≤ d i).Nonempty := by
  obtain ⟨j, -, hj⟩ := Finset.exists_min_image Finset.univ d ⟨0, Finset.mem_univ _⟩
  exact ⟨j, Finset.mem_filter.mpr ⟨Finset.mem_univ _, fun i => hj i (Finset.mem_univ _)⟩⟩

open Classical in
/-- The first column at which a row is least. -/
def least (d : Fin n → EReal) : Fin n :=
  (Finset.univ.filter fun j => ∀ i, d j ≤ d i).min' (leasts_nonempty d)

open Classical in
/-- No entry is below the one at the chosen column. -/
theorem least_le (d : Fin n → EReal) (i : Fin n) : d (least d) ≤ d i :=
  (Finset.mem_filter.mp (Finset.min'_mem _ (leasts_nonempty d))).2 i

open Classical in
/-- A column whose entry is no larger than the least one comes no earlier than the chosen column. -/
theorem least_first (d : Fin n → EReal) (j : Fin n) (h : d j ≤ d (least d)) : least d ≤ j :=
  Finset.min'_le _ _ (Finset.mem_filter.mpr ⟨Finset.mem_univ _, fun i => h.trans (least_le d i)⟩)

/-- A row after the first `t` least entries were struck out, one after another. -/
def struck (d : Fin n → EReal) : Nat → Fin n → EReal
  | 0 => d
  | t + 1 => fun j => if j = least (struck d t) then ⊤ else struck d t j

/-- The column chosen in round `t`. -/
def round (d : Fin n → EReal) (t : Nat) : Fin n := least (struck d t)

/-- An entry of the row after `t` rounds: `⊤` at a column chosen before, else what it was. -/
theorem struck_eq (d : Fin n → EReal) (t : Nat) (j : Fin n) :
    struck d t j = if ∃ s < t, round d s = j then ⊤ else d j := by
  induction t with
  | zero => simp [struck]
  | succ t ih =>
    show (if j = least (struck d t) then ⊤ else struck d t j) = _
    by_cases h : j = least (struck d t)
    · rw [if_pos h, if_pos ⟨t, Nat.lt_succ_self t, h.symm⟩]
    · rw [if_neg h, ih]
      refine if_congr ⟨fun ⟨s, hs, e⟩ => ⟨s, hs.trans (Nat.lt_succ_self t), e⟩, fun ⟨s, hs, e⟩ => ⟨s, ?_, e⟩⟩ rfl rfl
      rcases Nat.lt_succ_iff_lt_or_eq.mp hs with h' | h'
      · exact h'
      · subst h'; exact absurd e.symm h

/-- Before round `n` some column is left. -/
theorem exists_left (d : Fin n → EReal) (t : Nat) (ht : t < n) : ∃ j, ∀ s < t, round d s ≠ j := by
  classical
  by_contra h
  push Not at h
  have hsub : (Finset.univ : Finset (Fin n)) ⊆ (Finset.range t).image (round d) := fun j _ => by
    obtain ⟨s, hs, e⟩ := h j
    exact Finset.mem_image.mpr ⟨s, Finset.mem_range.mpr hs, e⟩
  have := (Finset.card_le_card hsub).trans Finset.card_image_le
  rw [Finset.card_univ, Fintype.card_fin, Finset.card_range] at this
  omega

/-- The column of round `t` was not chosen before. -/
theorem round_left (d : Fin n → EReal) (hd : ∀ j, d j ≠ ⊤) (t : Nat) (ht : t < n) :
    ∀ s < t, round d s ≠ round d t := by
  obtain ⟨j, hj⟩ := exists_left d t ht
  intro s hs e
  have h1 : struck d t (round d t) = ⊤ := by rw [struck_eq, if_pos ⟨s, hs, e⟩]
  have h2 : struck d t j = d j := by rw [struck_eq, if_neg fun ⟨s', hs', e'⟩ => hj s' hs' e']
  have := least_le (struck d t) j
  rw [show least (struck d t) = round d t from rfl, h1, h2] at this
  exact hd j (top_le_iff.mp this)

/-- Of the columns not chosen before round `t`, none is nearer than the one chosen then. -/
theorem round_le (d : Fin n → EReal) (hd : ∀ j, d j ≠ ⊤) (t : Nat) (ht : t < n) (j : Fin n)
    (hj : ∀ s < t, round d s ≠ j) : d (round d t) ≤ d j := by
  have h1 : struck d t (round d t) = d (round d t) := by
    rw [struck_eq, if_neg fun ⟨s, hs, e⟩ => round_left d hd t ht s hs e]
  have h2 : struck d t j = d j := by rw [struck_eq, if_neg fun ⟨s', hs', e'⟩ => hj s' hs' e']
  have := least_le (struck d t) j
  rwa [show least (struck d t) = round d t from rfl, h1, h2] at this

/-- Of the columns not chosen before round `t`, one as near as the chosen one comes no earlier. -/
theorem round_first (d : Fin n → EReal) (hd : ∀ j, d j ≠ ⊤) (t : Nat) (ht : t < n) (j : Fin n)
    (hj : ∀ s < t, round d s ≠ j) (h : d j ≤ d (round d t)) : round d t ≤ j := by
  have h1 : struck d t (round d t) = d (round d t) := by
    rw [struck_eq, if_neg fun ⟨s, hs, e⟩ => round_left d hd t ht s hs e]
  have h2 : struck d t j = d j := by rw [struck_eq, if_neg fun ⟨s', hs', e'⟩ => hj s' hs' e']
  exact least_first (struck d t) j (by rw [show least (struck d t) = round d t from rfl, h1, h2]; exact h)

/-- "Nearer": the order of a row's columns by their entries alone. -/
def nearer (d : Fin n → EReal) : Fin n → Fin n → Bool := fun a b => decide (d a < d b)

/-- Columns by their entries, and by their places where the entries are equal. -/
def nearerOrBefore (d : Fin n → EReal) : Fin n → Fin n → Bool :=
  fun a b => decide (d a < d b) || (decide (d a = d b) && decide (a < b))

/-- On a list of columns in their own order, the stable sort by the entries alone is the sort that also looks
    at the places. -/
theorem stableSort_nearer (d : Fin n → EReal) (l : List (Fin n)) (hl : l.Pairwise (· < ·)) :
    stableSort (nearer d) l = stableSort (nearerOrBefore d) l := by
  induction l with
  | nil => rfl
  | cons a l ih =>
    rw [List.pairwise_cons] at hl
    unfold stableSort
    rw [ih hl.2]
    refine insertBefore_congr _ _ a _ fun b hb => ?_
    have hab := hl.1 b ((perm_stableSort _ l).mem_iff.mp hb)
    simp [nearer, nearerOrBefore, not_lt.mpr hab.le]

/-- The stable sort of the columns by their entries starts with the columns of the first rounds. -/
theorem sortedFrom_nearer (d : Fin n → EReal) (hd : ∀ j, d j ≠ ⊤) (i : Fin n) :
    sortedFrom (nearer d) i = round d i := by
  have hB : StrictTotalBefore (nearerOrBefore d) :=
    StrictTotalBefore.of_key_then_position (fun a b => decide (a < b)) d (fun a => by simp)
      (fun a b c hab hbc => by simp only [decide_eq_true_eq] at *; exact hab.trans hbc)
      (fun a b => by simp only [decide_eq_true_eq]; exact lt_trichotomy a b)
  have hs : sortedFrom (nearer d) i = sortedFrom (nearerOrBefore d) i := by
    unfold sortedFrom
    rw [List.get_of_eq (show sortPositions n (nearer d) = sortPositions n (nearerOrBefore d) from
      stableSort_nearer d _ (List.pairwise_lt_finRange n))]
    rfl
  rw [hs]
  have hnot : ∀ a b, d a ≤ d b → (d b ≤ d a → a ≤ b) → nearerOrBefore d b a = false := fun a b h1 h2 => by
    simp only [nearerOrBefore, Bool.or_eq_false_iff, Bool.and_eq_false_iff, decide_eq_false_iff_not, not_lt]
    refine ⟨h1, ?_⟩
    by_cases e : d b = d a
    · exact Or.inr (h2 e.le)
    · exact Or.inl e
  have := hB.sortedFrom_eq_of_prefix (k := n) (le_refl n) (fun i => round d i) ?_ ?_ ?_ i
  · simpa using this
  · intro a b h
    rcases lt_trichotomy a b with hlt | e | hlt
    · exact absurd h (round_left d hd b b.isLt a hlt)
    · exact e
    · exact absurd h.symm (round_left d hd a a.isLt b hlt)
  · intro a b hab
    have hleft : ∀ s < (a : Nat), round d s ≠ round d b := fun s hs => round_left d hd b b.isLt s (hs.trans hab)
    exact hnot _ _ (round_le d hd a a.isLt _ hleft) (round_first d hd a a.isLt _ hleft)
  · intro a p hp
    have hleft : ∀ s < (a : Nat), round d s ≠ p := fun s hs => hp ⟨s, hs.trans a.isLt⟩
    exact hnot _ _ (round_le d hd a a.isLt _ hleft) (round_first d hd a a.isLt _ hleft)

end Cert.Knn

end
-- ==== Proof.Spec.lean ====
/-
  The mathematics both programs compute: attention over each point's sixteen nearest points, and attention of
  the class point over all points, with every bias left out.

  The arguments are functions of their coordinates; a value computed from them is a function of its own. Row 0
  of a cloud is the class point, rows 1 to 512 are the points. A linear layer multiplies by the transpose of its
  weights, so its weights are read output first.
-/
module

public import proofs.«01_k».proof.Proof.Pick

@[expose] public section

noncomputable section

namespace Cert.Knn

open Idealize.ShloMosaic

/-- The arguments that matter once the biases are zero. -/
structure Args where
  xyz : Fin 4 → Fin 513 → Fin 3 → EReal
  features : Fin 4 → Fin 513 → Fin 256 → EReal
  fc1 : Fin 512 → Fin 256 → EReal
  fc2 : Fin 256 → Fin 512 → EReal
  fcd1 : Fin 512 → Fin 3 → EReal
  fcd2 : Fin 512 → Fin 512 → EReal
  fcg1 : Fin 512 → Fin 512 → EReal
  fcg2 : Fin 512 → Fin 512 → EReal
  wq : Fin 512 → Fin 512 → EReal
  wk : Fin 512 → Fin 512 → EReal
  wv : Fin 512 → Fin 512 → EReal
  fc1c : Fin 512 → Fin 256 → EReal
  fc2c : Fin 256 → Fin 512 → EReal
  wqc : Fin 512 → Fin 512 → EReal
  wkc : Fin 512 → Fin 512 → EReal
  wvc : Fin 512 → Fin 512 → EReal

/-- A point's row in the cloud with its class point. -/
def up (n : Fin 512) : Fin 513 := ⟨1 + n.val, by have := n.isLt; omega⟩

/-- The number 2, as the programs write it. -/
def two : EReal := Ideal.ofBits .f32 0x40000000#32

/-- The scale of the logits, the square root of 512. -/
def scale : EReal := Ideal.sqrt (Ideal.ofBits .f32 0x44000000#32)

/-- The greatest of finitely many values. -/
def peak {n : Nat} (l : Fin n → EReal) : EReal := Finset.univ.fold max ⊥ l

/-- One value of a softmax, without the division: the exponential of the distance from the greatest. -/
def expo {n : Nat} (l : Fin n → EReal) (k : Fin n) : EReal := Ideal.exp (l k - peak l)

/-- One value of a softmax. -/
def softmax {n : Nat} (l : Fin n → EReal) (k : Fin n) : EReal := Ideal.div (expo l k) (∑ i, expo l i)

namespace Args

variable (A : Args) (b : Fin 4)

/-- A point's coordinates. -/
def pt (n : Fin 512) (c : Fin 3) : EReal := A.xyz b (up n) c

/-- A point's features. -/
def ft (n : Fin 512) (k : Fin 256) : EReal := A.features b (up n) k

/-- The class point's features. -/
def cf (k : Fin 256) : EReal := A.features b 0 k

/-- The squared distance of two points, as |p|² + |p'|² − 2 p·p'. -/
def dist (n j : Fin 512) : EReal :=
  (∑ c, A.pt b n c * A.pt b n c) + (∑ c, A.pt b j c * A.pt b j c) - two * ∑ c, A.pt b n c * A.pt b j c

/-- The `k`-th nearest point, by the stable sort of the distances. -/
def nbr (n : Fin 512) (k : Fin 16) : Fin 512 := sortedFrom (nearer (A.dist b n)) (k.castLE (by decide))

/-- The points' hidden features. -/
def x (n f : Fin 512) : EReal := ∑ k, A.ft b n k * A.fc1 f k

/-- The points' queries. -/
def q (n f : Fin 512) : EReal := ∑ e, A.x b n e * A.wq f e

/-- The points' keys. -/
def k (n f : Fin 512) : EReal := ∑ e, A.x b n e * A.wk f e

/-- The points' values. -/
def v (n f : Fin 512) : EReal := ∑ e, A.x b n e * A.wv f e

/-- A point's offset from its `k`-th neighbour. -/
def delta (n : Fin 512) (k : Fin 16) (c : Fin 3) : EReal := A.pt b n c - A.pt b (A.nbr b n k) c

/-- The first layer of the position encoding. -/
def hid (n : Fin 512) (k : Fin 16) (f : Fin 512) : EReal := max (∑ c, A.delta b n k c * A.fcd1 f c) 0

/-- The position encoding. -/
def pos (n : Fin 512) (k : Fin 16) (f : Fin 512) : EReal := ∑ e, A.hid b n k e * A.fcd2 f e

/-- What the attention is computed from. -/
def gin (n : Fin 512) (k : Fin 16) (f : Fin 512) : EReal :=
  A.q b n f - A.k b (A.nbr b n k) f + A.pos b n k f

/-- The first layer of the attention. -/
def gam (n : Fin 512) (k : Fin 16) (f : Fin 512) : EReal := max (∑ e, A.gin b n k e * A.fcg1 f e) 0

/-- The attention's logits, one for each neighbour and feature. -/
def logit (n f : Fin 512) (k : Fin 16) : EReal := Ideal.div (∑ e, A.gam b n k e * A.fcg2 f e) scale

/-- The attention: a softmax over the neighbours. -/
def attn (n f : Fin 512) (k : Fin 16) : EReal := softmax (A.logit b n f) k

/-- The attended values. -/
def res (n f : Fin 512) : EReal := ∑ k, A.attn b n f k * (A.v b (A.nbr b n k) f + A.pos b n k f)

/-- The points' output features. -/
def out (n : Fin 512) (o : Fin 256) : EReal := (∑ f, A.res b n f * A.fc2 o f) + A.ft b n o

/-- The class point's hidden features. -/
def cx (f : Fin 512) : EReal := ∑ k, A.cf b k * A.fc1c f k

/-- The class point's query. -/
def qc (f : Fin 512) : EReal := ∑ e, A.cx b e * A.wqc f e

/-- The points' keys for the class point. -/
def kc (n f : Fin 512) : EReal := ∑ e, A.x b n e * A.wkc f e

/-- The points' values for the class point. -/
def vc (n f : Fin 512) : EReal := ∑ e, A.x b n e * A.wvc f e

/-- The class point's logits. -/
def clogit (n : Fin 512) : EReal := Ideal.div (∑ f, A.qc b f * A.kc b n f) scale

/-- The class point's attention. -/
def cattn (n : Fin 512) : EReal := softmax (A.clogit b) n

/-- The class point's attended value. -/
def cres (f : Fin 512) : EReal := ∑ n, A.cattn b n * A.vc b n f

/-- The class point's output features. -/
def cout (o : Fin 256) : EReal := (∑ f, A.cres b f * A.fc2c o f) + A.cf b o

/-- The output features of the whole cloud, the class point first. -/
def outs (r : Fin 513) (o : Fin 256) : EReal :=
  if h : r.val < 1 then A.cout b o else A.out b ⟨r.val - 1, by omega⟩ o

end Args

end Cert.Knn

end
-- ==== Proof.Consts.lean ====
/-
  The numbers the programs write as bit patterns, as extended reals.
-/
module

public import proofs.«01_k».proof.Proof.Spec
public import Idealize.ShloMosaic.Lib.Pointwise

@[expose] public section

noncomputable section

namespace Cert.Knn

open Idealize.ShloMosaic

/-- The pattern of −∞. -/
theorem word_bot : Ideal.ofBits .f32 0xFF800000#32 = ⊥ := by simp [Ideal.ofBits, Ideal.ieee]

/-- The pattern of +∞. -/
theorem word_top : Ideal.ofBits .f32 0x7F800000#32 = ⊤ := by simp [Ideal.ofBits, Ideal.ieee]

/-- The number 2 is a real number. -/
theorem two_real : two = ((2 : ℝ) : EReal) := by
  simp [two, Ideal.ofBits, Ideal.ieee, -EReal.coe_mul]; norm_num

/-- The scale is the square root of 512, a real number. -/
theorem scale_real : scale = ((Real.sqrt 512 : ℝ) : EReal) := by
  have h : Ideal.ofBits .f32 0x44000000#32 = ((512 : ℝ) : EReal) := by
    simp [Ideal.ofBits, Ideal.ieee, -EReal.coe_mul]; norm_num
  rw [scale, h]
  exact if_neg (by norm_num)

/-- Taking the greatest from −∞ on, and then the greater of that and −∞, is taking the greatest. -/
theorem bot_max (x : EReal) : max ⊥ x = x := max_eq_right bot_le

end Cert.Knn

end
-- ==== Proof.Arrays.lean ====
/-
  The arguments as functions of their coordinates, from the arrays that hold them.
-/
module

public import proofs.«01_k».proof.Proof.Consts

@[expose] public section

noncomputable section

namespace Cert.Knn

open Idealize.ShloMosaic

/-- The arguments that the arrays hold. -/
def Args.of (xyz : FVec Ideal ⟨3, ![4, 513, 3]⟩ .f32) (features : FVec Ideal ⟨3, ![4, 513, 256]⟩ .f32)
    (fc1 : FVec Ideal ⟨2, ![512, 256]⟩ .f32) (fc2 : FVec Ideal ⟨2, ![256, 512]⟩ .f32) (fcd1 : FVec Ideal ⟨2, ![512, 3]⟩ .f32)
    (fcd2 fcg1 fcg2 wq wk wv : FVec Ideal ⟨2, ![512, 512]⟩ .f32)
    (fc1c : FVec Ideal ⟨2, ![512, 256]⟩ .f32) (fc2c : FVec Ideal ⟨2, ![256, 512]⟩ .f32)
    (wqc wkc wvc : FVec Ideal ⟨2, ![512, 512]⟩ .f32) : Args where
  xyz b n c := xyz (ix3 b n c)
  features b n k := features (ix3 b n k)
  fc1 f k := fc1 (ix2 f k)
  fc2 o f := fc2 (ix2 o f)
  fcd1 f c := fcd1 (ix2 f c)
  fcd2 f e := fcd2 (ix2 f e)
  fcg1 f e := fcg1 (ix2 f e)
  fcg2 f e := fcg2 (ix2 f e)
  wq f e := wq (ix2 f e)
  wk f e := wk (ix2 f e)
  wv f e := wv (ix2 f e)
  fc1c f k := fc1c (ix2 f k)
  fc2c o f := fc2c (ix2 o f)
  wqc f e := wqc (ix2 f e)
  wkc f e := wkc (ix2 f e)
  wvc f e := wvc (ix2 f e)

/-- A bias is zero. -/
def IsZero {n : Nat} (c : FVec Ideal ⟨1, ![n]⟩ .f32) : Prop := ∀ j : Fin n, c (ix1 j) = 0

end Cert.Knn

end
-- ==== Proof.HostReads.lean ====
/-
  What the kernel's host operations leave for its two launches: the points, the class point, the points in two
  parts, the first layer's weights in three, and the other weights transposed.
-/
module

public import proofs.«01_k».proof.Proof.Arrays
public import proofs.«01_k».proof.Proof.Gen.KernelIdeal.Frame
public import Idealize.ShloMosaic.Lib.StableHlo.ReadAt

@[expose] public section

set_option maxRecDepth 16384

noncomputable section

namespace Cert.Knn.Ker

open Idealize.ShloMosaic Idealize.ShloMosaic.TcCoe Cert.KernelIdeal Cert.KernelIdeal.Gen

variable (m : (ℓ : Loc nD τ sig) → Buf (Elt Ideal) ℓ) (ρ : Dev nD → PrngReg) (c : Dev nD)

/-- The kernel's arguments. -/
def argsOf : Args :=
  Args.of (m ((c.tc : Thread nD τ).loc main_arg0)) (m ((c.tc : Thread nD τ).loc main_arg1)) (m ((c.tc : Thread nD τ).loc main_arg2))
    (m ((c.tc : Thread nD τ).loc main_arg4)) (m ((c.tc : Thread nD τ).loc main_arg6)) (m ((c.tc : Thread nD τ).loc main_arg8))
    (m ((c.tc : Thread nD τ).loc main_arg10)) (m ((c.tc : Thread nD τ).loc main_arg12)) (m ((c.tc : Thread nD τ).loc main_arg14))
    (m ((c.tc : Thread nD τ).loc main_arg15)) (m ((c.tc : Thread nD τ).loc main_arg16)) (m ((c.tc : Thread nD τ).loc main_arg17))
    (m ((c.tc : Thread nD τ).loc main_arg19)) (m ((c.tc : Thread nD τ).loc main_arg21)) (m ((c.tc : Thread nD τ).loc main_arg22))
    (m ((c.tc : Thread nD τ).loc main_arg23))

/-! ## Before the first launch -/

/-- The points' coordinates. -/
theorem v0_at (b : Fin 4) (n : Fin 512) (k : Fin 3) : (V1 m ρ c main_v0 : Vec Ideal S4x512x3 .f32) (ix3 b n k) = (argsOf m c).pt b n k := by
  show (StableHlo.after hostOps0 (W0 m ρ c) main_v0 : Vec Ideal S4x512x3 .f32) (ix3 b n k) = _
  after_reads_at
  rfl

/-- The points' coordinates, with the two axes exchanged. -/
theorem v14_at (b : Fin 4) (k : Fin 3) (n : Fin 512) : (V1 m ρ c main_v14 : Vec Ideal S4x3x512 .f32) (ix3 b k n) = (argsOf m c).pt b n k := by
  show (StableHlo.after hostOps0 (W0 m ρ c) main_v14 : Vec Ideal S4x3x512 .f32) (ix3 b k n) = _
  after_reads_at
  rfl

/-- The points' features. -/
theorem v2_at (b : Fin 4) (n : Fin 512) (k : Fin 256) : (V1 m ρ c main_v2 : Vec Ideal S4x512x256 .f32) (ix3 b n k) = (argsOf m c).ft b n k := by
  show (StableHlo.after hostOps0 (W0 m ρ c) main_v2 : Vec Ideal S4x512x256 .f32) (ix3 b n k) = _
  after_reads_at
  rfl

/-- The class point's features. -/
theorem v1_at (b : Fin 4) (k : Fin 256) : (V1 m ρ c main_v1 : Vec Ideal S4x1x256 .f32) (ix3 b 0 k) = (argsOf m c).cf b k := by
  show (StableHlo.after hostOps0 (W0 m ρ c) main_v1 : Vec Ideal S4x1x256 .f32) (ix3 b 0 k) = _
  after_reads_at
  rfl

/-- The first part of the points' coordinates. -/
theorem v3_at (b : Fin 4) (n : Fin 512) (k : Fin 3) : (V1 m ρ c main_v3 : Vec Ideal S4x512x3 .bf16) (ix3 b n k) = (argsOf m c).pt b n k := by
  show (StableHlo.after hostOps0 (W0 m ρ c) main_v3 : Vec Ideal S4x512x3 .bf16) (ix3 b n k) = _
  after_reads_at
  rfl

/-- The second part of the points' coordinates: what the first part leaves. -/
theorem v6_at (b : Fin 4) (n : Fin 512) (k : Fin 3) : (V1 m ρ c main_v6 : Vec Ideal S4x512x3 .bf16) (ix3 b n k) = (argsOf m c).pt b n k - (argsOf m c).pt b n k := by
  show (StableHlo.after hostOps0 (W0 m ρ c) main_v6 : Vec Ideal S4x512x3 .bf16) (ix3 b n k) = _
  after_reads_at
  rfl

/-- The first part of the first position layer's weights. -/
theorem v8_at (k : Fin 3) (f : Fin 512) : (V1 m ρ c main_v8 : Vec Ideal S3x512 .bf16) (ix2 k f) = (argsOf m c).fcd1 f k := by
  show (StableHlo.after hostOps0 (W0 m ρ c) main_v8 : Vec Ideal S3x512 .bf16) (ix2 k f) = _
  after_reads_at
  rfl

/-- The second part of the first position layer's weights: what the first part leaves. -/
theorem v12_at (k : Fin 3) (f : Fin 512) : (V1 m ρ c main_v12 : Vec Ideal S3x512 .bf16) (ix2 k f) = (argsOf m c).fcd1 f k - (argsOf m c).fcd1 f k := by
  show (StableHlo.after hostOps0 (W0 m ρ c) main_v12 : Vec Ideal S3x512 .bf16) (ix2 k f) = _
  after_reads_at
  rfl

/-- The weights of the hidden layer, transposed. -/
theorem v16_at (i : Fin 256) (j : Fin 512) : (V1 m ρ c main_v16 : Vec Ideal S256x512 .bf16) (ix2 i j) = (argsOf m c).fc1 j i := by
  show (StableHlo.after hostOps0 (W0 m ρ c) main_v16 : Vec Ideal S256x512 .bf16) (ix2 i j) = _
  after_reads_at
  rfl

/-- The weights of the queries, transposed. -/
theorem v18_at (i : Fin 512) (j : Fin 512) : (V1 m ρ c main_v18 : Vec Ideal S512x512 .bf16) (ix2 i j) = (argsOf m c).wq j i := by
  show (StableHlo.after hostOps0 (W0 m ρ c) main_v18 : Vec Ideal S512x512 .bf16) (ix2 i j) = _
  after_reads_at
  rfl

/-- The weights of the keys, transposed. -/
theorem v20_at (i : Fin 512) (j : Fin 512) : (V1 m ρ c main_v20 : Vec Ideal S512x512 .bf16) (ix2 i j) = (argsOf m c).wk j i := by
  show (StableHlo.after hostOps0 (W0 m ρ c) main_v20 : Vec Ideal S512x512 .bf16) (ix2 i j) = _
  after_reads_at
  rfl

/-- The weights of the values, transposed. -/
theorem v22_at (i : Fin 512) (j : Fin 512) : (V1 m ρ c main_v22 : Vec Ideal S512x512 .bf16) (ix2 i j) = (argsOf m c).wv j i := by
  show (StableHlo.after hostOps0 (W0 m ρ c) main_v22 : Vec Ideal S512x512 .bf16) (ix2 i j) = _
  after_reads_at
  rfl

/-- The weights of the class point's hidden layer, transposed. -/
theorem v24_at (i : Fin 256) (j : Fin 512) : (V1 m ρ c main_v24 : Vec Ideal S256x512 .bf16) (ix2 i j) = (argsOf m c).fc1c j i := by
  show (StableHlo.after hostOps0 (W0 m ρ c) main_v24 : Vec Ideal S256x512 .bf16) (ix2 i j) = _
  after_reads_at
  rfl

/-- The weights of the class point's query, transposed. -/
theorem v26_at (i : Fin 512) (j : Fin 512) : (V1 m ρ c main_v26 : Vec Ideal S512x512 .bf16) (ix2 i j) = (argsOf m c).wqc j i := by
  show (StableHlo.after hostOps0 (W0 m ρ c) main_v26 : Vec Ideal S512x512 .bf16) (ix2 i j) = _
  after_reads_at
  rfl

/-- The weights of the class point's keys, transposed. -/
theorem v28_at (i : Fin 512) (j : Fin 512) : (V1 m ρ c main_v28 : Vec Ideal S512x512 .bf16) (ix2 i j) = (argsOf m c).wkc j i := by
  show (StableHlo.after hostOps0 (W0 m ρ c) main_v28 : Vec Ideal S512x512 .bf16) (ix2 i j) = _
  after_reads_at
  rfl

/-- The weights of the class point's values, transposed. -/
theorem v30_at (i : Fin 512) (j : Fin 512) : (V1 m ρ c main_v30 : Vec Ideal S512x512 .bf16) (ix2 i j) = (argsOf m c).wvc j i := by
  show (StableHlo.after hostOps0 (W0 m ρ c) main_v30 : Vec Ideal S512x512 .bf16) (ix2 i j) = _
  after_reads_at
  rfl

/-- The weights of the class point's output layer, transposed. -/
theorem v32_at (i : Fin 512) (j : Fin 256) : (V1 m ρ c main_v32 : Vec Ideal S512x256 .bf16) (ix2 i j) = (argsOf m c).fc2c j i := by
  show (StableHlo.after hostOps0 (W0 m ρ c) main_v32 : Vec Ideal S512x256 .bf16) (ix2 i j) = _
  after_reads_at
  rfl

/-- The first position layer's weights stand three times one below the other. -/
theorem v13_eq : V1 m ρ c main_v13 = (concatenate S9x512 0 [⟨S3x512, (V1 m ρ c main_v8 : Vec Ideal S3x512 .bf16)⟩,
    ⟨S3x512, (V1 m ρ c main_v12 : Vec Ideal S3x512 .bf16)⟩, ⟨S3x512, (V1 m ρ c main_v8 : Vec Ideal S3x512 .bf16)⟩]
    concatenates_S3x512_S3x512_S3x512_S9x512_d0 : Vec Ideal S9x512 .bf16) := by
  show StableHlo.after hostOps0 (W0 m ρ c) main_v13 = concatenate S9x512 0
    [⟨S3x512, (StableHlo.after hostOps0 (W0 m ρ c) main_v8 : Vec Ideal S3x512 .bf16)⟩,
      ⟨S3x512, (StableHlo.after hostOps0 (W0 m ρ c) main_v12 : Vec Ideal S3x512 .bf16)⟩,
      ⟨S3x512, (StableHlo.after hostOps0 (W0 m ρ c) main_v8 : Vec Ideal S3x512 .bf16)⟩]
    concatenates_S3x512_S3x512_S3x512_S9x512_d0
  after_reads_simp
  rfl

/-- Three matrices one below the other, read by rows. -/
theorem stack_at (u v w : Vec Ideal S3x512 .bf16) (k : Fin 3) (f : Fin 512) :
    (concatenate S9x512 0 [⟨S3x512, u⟩, ⟨S3x512, v⟩, ⟨S3x512, w⟩] concatenates_S3x512_S3x512_S3x512_S9x512_d0 : Vec Ideal S9x512 .bf16)
        (ix2 ⟨k.val, by omega⟩ f) = u (ix2 k f)
    ∧ (concatenate S9x512 0 [⟨S3x512, u⟩, ⟨S3x512, v⟩, ⟨S3x512, w⟩] concatenates_S3x512_S3x512_S3x512_S9x512_d0 : Vec Ideal S9x512 .bf16)
        (ix2 ⟨3 + k.val, by omega⟩ f) = v (ix2 k f)
    ∧ (concatenate S9x512 0 [⟨S3x512, u⟩, ⟨S3x512, v⟩, ⟨S3x512, w⟩] concatenates_S3x512_S3x512_S3x512_S9x512_d0 : Vec Ideal S9x512 .bf16)
        (ix2 ⟨6 + k.val, by omega⟩ f) = w (ix2 k f) := by
  refine ⟨?_, ?_, ?_⟩
  · pointwise
  · pointwise
  · pointwise
    rw [dif_neg (by omega), dif_neg (by omega)]
    exact congrArg (fun i => w (ix2 i f)) (Fin.ext (by show 6 + k.val - 3 - 3 = k.val; omega))

/-- Rows 0 to 2: the first part. -/
theorem v13_hi (k : Fin 3) (f : Fin 512) : (V1 m ρ c main_v13 : Vec Ideal S9x512 .bf16) (ix2 ⟨k.val, by omega⟩ f) = (argsOf m c).fcd1 f k := by
  rw [v13_eq]
  exact (stack_at _ _ _ k f).1.trans (v8_at m ρ c k f)

/-- Rows 3 to 5: the second part. -/
theorem v13_lo (k : Fin 3) (f : Fin 512) :
    (V1 m ρ c main_v13 : Vec Ideal S9x512 .bf16) (ix2 ⟨3 + k.val, by omega⟩ f) = (argsOf m c).fcd1 f k - (argsOf m c).fcd1 f k := by
  rw [v13_eq]
  exact (stack_at _ _ _ k f).2.1.trans (v12_at m ρ c k f)

/-- Rows 6 to 8: the first part again. -/
theorem v13_re (k : Fin 3) (f : Fin 512) : (V1 m ρ c main_v13 : Vec Ideal S9x512 .bf16) (ix2 ⟨6 + k.val, by omega⟩ f) = (argsOf m c).fcd1 f k := by
  rw [v13_eq]
  exact (stack_at _ _ _ k f).2.2.trans (v8_at m ρ c k f)

/-! ## Between the launches -/

/-- The weights of the second position layer, transposed. -/
theorem v36_at (i : Fin 512) (j : Fin 512) : (V3 m ρ c main_v36 : Vec Ideal S512x512 .bf16) (ix2 i j) = (argsOf m c).fcd2 j i := by
  show (StableHlo.after hostOps1 (W2 m ρ c) main_v36 : Vec Ideal S512x512 .bf16) (ix2 i j) = _
  after_reads_at
  rw [W2_args m ρ c main_arg8 (by decide)]
  rfl

/-- The weights of the first attention layer, transposed. -/
theorem v38_at (i : Fin 512) (j : Fin 512) : (V3 m ρ c main_v38 : Vec Ideal S512x512 .bf16) (ix2 i j) = (argsOf m c).fcg1 j i := by
  show (StableHlo.after hostOps1 (W2 m ρ c) main_v38 : Vec Ideal S512x512 .bf16) (ix2 i j) = _
  after_reads_at
  rw [W2_args m ρ c main_arg10 (by decide)]
  rfl

/-- The weights of the second attention layer, transposed. -/
theorem v40_at (i : Fin 512) (j : Fin 512) : (V3 m ρ c main_v40 : Vec Ideal S512x512 .bf16) (ix2 i j) = (argsOf m c).fcg2 j i := by
  show (StableHlo.after hostOps1 (W2 m ρ c) main_v40 : Vec Ideal S512x512 .bf16) (ix2 i j) = _
  after_reads_at
  rw [W2_args m ρ c main_arg12 (by decide)]
  rfl

/-- The weights of the output layer, transposed. -/
theorem v42_at (i : Fin 512) (j : Fin 256) : (V3 m ρ c main_v42 : Vec Ideal S512x256 .bf16) (ix2 i j) = (argsOf m c).fc2 j i := by
  show (StableHlo.after hostOps1 (W2 m ρ c) main_v42 : Vec Ideal S512x256 .bf16) (ix2 i j) = _
  after_reads_at
  rw [W2_args m ρ c main_arg4 (by decide)]
  rfl

/-- A cloud's neighbours in one column, sixteen to a point. -/
theorem v34_at (b : Fin 4) (s : Fin 8192) (n : Fin 512) (k : Fin 16) (h : s.val = n.val * 16 + k.val) :
    (V3 m ρ c main_v34 : Vec Ideal S4x8192x1 .i32) (ix3 b s 0) = (W2 m ρ c main_v33_0 : Vec Ideal S4x512x16 .i32) (ix3 b n k) := by
  show (StableHlo.after hostOps1 (W2 m ρ c) main_v34 : Vec Ideal S4x8192x1 .i32) (ix3 b s 0) = _
  after_reads_at
  have hk := k.isLt
  exact congrArg₂ (fun i j => (W2 m ρ c main_v33_0 : Vec Ideal S4x512x16 .i32) (ix3 b i j))
    (Fin.ext (by show s.val / 16 = n.val; omega)) (Fin.ext (by show s.val % 16 = k.val; omega))

/-- What a launch or a host operation does not write stays. -/
theorem kept (r : Ref sig .tc) (h1 : r ∉ hostOps1_W) (h0 : ∀ w : Fin cfg0.W, Pipeline.arrRef spec0 w = r → (cfg0.win w).isOut = false) :
    V3 m ρ c r = V1 m ρ c r := (W3_of m ρ c r h1).trans (W2_of m ρ c r h0)

end Cert.Knn.Ker

end
-- ==== Proof.Rounds.lean ====
/-
  The sixteen rounds by which the first kernel finds a point's neighbours: each takes the first least entry of
  every row of the distances and strikes it out. Read at an index, a round is the one of Proof/Pick.lean.
-/
module

public import proofs.«01_k».proof.Proof.Consts
public import proofs.«01_k».proof.Proof.Gen.KernelIdeal.Frame

@[expose] public section

set_option maxRecDepth 16384

noncomputable section

namespace Cert.Knn

open Idealize.ShloMosaic Cert.KernelIdeal Cert.KernelIdeal.Gen

/-- A row's index of the least entry, as a word, is the row's first least column. -/
theorem reduceIndex_row (d : FVec Ideal S512x512 .f32) (h : S512x512.Reduces [1] S512) (i : Fin 512) :
    reduceIndex .argMin 1 S512 d h (ix1 i) = BitVec.ofNat 32 (least fun j => d (ix2 i j)).val := by
  have hmem : ∀ a j, (h.drop (ix2 a j) = ix1 i) ↔ a = i := fun a j => by
    have hv : (h.drop (ix2 a j) 0 : Nat) = a := h.drop_apply_val_of_eq (ix2 a j) 0 0
    constructor
    · intro e; rw [e] at hv; exact Fin.ext hv.symm
    · intro e; subst e
      funext b
      match b with
      | ⟨0, _⟩ => exact Fin.ext hv
  show Ideal.reduceIndex .argMin 1 h d (ix1 i) = _
  unfold Ideal.reduceIndex
  simp only [reduceCtorEq, if_false]
  congr 1
  set f : Fin 512 → EReal := fun j => d (ix2 i j) with hf
  have key : ∀ S : Finset Nat, (least f).val ∈ S → (∀ c ∈ S, (least f).val ≤ c) → S.min.getD 0 = (least f).val := by
    intro S h1 h2
    have : S.min = ((least f).val : WithTop Nat) :=
      le_antisymm (Finset.min_le h1) (Finset.le_min fun c hc => WithTop.coe_le_coe.mpr (h2 c hc))
    rw [this]; rfl
  apply key
  · refine Finset.mem_image.mpr ⟨ix2 i (least f), Finset.mem_filter.mpr ⟨Finset.mem_filter.mpr ⟨Finset.mem_univ _, (hmem _ _).mpr rfl⟩, ?_⟩, rfl⟩
    intro y hy
    obtain ⟨-, hy⟩ := Finset.mem_filter.mp hy
    rw [eq_ix2 y] at hy ⊢
    rw [(hmem _ _).mp hy]
    exact not_lt.mpr (least_le f (y 1))
  · intro c hc
    obtain ⟨y, hy, rfl⟩ := Finset.mem_image.mp hc
    obtain ⟨hy, hmin⟩ := Finset.mem_filter.mp hy
    obtain ⟨-, hy⟩ := Finset.mem_filter.mp hy
    have h0 : y 0 = i := by rw [eq_ix2 y] at hy; exact (hmem _ _).mp hy
    have hm := hmin (ix2 i (least f)) (Finset.mem_filter.mpr ⟨Finset.mem_univ _, (hmem _ _).mpr rfl⟩)
    have hy' : d y = f (y 1) := by rw [hf]; simp only []; rw [← h0]; exact congrArg d (eq_ix2 y)
    rw [hy'] at hm
    exact least_first f (y 1) (not_lt.mp hm)

/-- A distance matrix whose rows are the rows `D` after `t` rounds. -/
def Struck (D : Fin 512 → Fin 512 → EReal) (t : Nat) (d : FVec Ideal S512x512 .f32) : Prop :=
  ∀ i j, d (ix2 i j) = struck (D i) t j

/-- A column of words that names, in each row, the column chosen in round `t`. -/
def Chosen (D : Fin 512 → Fin 512 → EReal) (t : Nat) (v : IVec S512x1 32) : Prop :=
  ∀ i, v (ix2 i 0) = BitVec.ofNat 32 (round (D i) t).val

variable {D : Fin 512 → Fin 512 → EReal} {t : Nat} {d : FVec Ideal S512x512 .f32}

/-- The index of the least entry, laid out as a column, is the round's choice. -/
theorem chosen_of (hd : Struck D t d) (h : S512x512.Reduces [1] S512) (h' : S512.ShapeCasts S512x1) :
    Chosen D t (shapeCast S512x1 (reduceIndex .argMin 1 S512 d h) h') := fun i => by
  have : (fun j => d (ix2 i j)) = struck (D i) t := funext fun j => hd i j
  show _ = BitVec.ofNat 32 (least (struck (D i) t)).val
  rw [← this, ← reduceIndex_row d h i]
  generalize reduceIndex .argMin 1 S512 d h = r
  pointwise

/-- Putting +∞ where the column's number is the chosen one strikes the choice out. -/
theorem struck_of {v : IVec S512x1 32} (hd : Struck D t d) (hv : Chosen D t v) (h : S512x1.Broadcasts S512x512)
    (hi) : Struck D (t + 1) (select (cmpi .eq (iota .tc S512x512 32 [1] hi) (broadcastTo S512x512 v h))
      (broadcast S512x512 (Scalar.ofBits (F := Ideal) .f32 0x7F800000#32)) d) := fun i j => by
  have hij : (BitVec.ofNat 32 j.val = BitVec.ofNat 32 (round (D i) t).val) ↔ j = round (D i) t := by
    constructor
    · intro e
      have := congrArg BitVec.toNat e
      simp only [BitVec.toNat_ofNat] at this
      have h1 := j.isLt; have h2 := (round (D i) t).isLt
      exact Fin.ext (by omega)
    · intro e; rw [e]
  pointwise
  rw [hv i, hd i j, word_top]
  show _ = if j = round (D i) t then ⊤ else struck (D i) t j
  by_cases e : j = round (D i) t
  · rw [if_pos e, hij.mpr e]; simp [IntOp.cmpi, Scalar.select]
  · rw [if_neg e]
    have hne : ¬ BitVec.ofNat 32 j.val = BitVec.ofNat 32 (round (D i) t).val := fun h => e (hij.mp h)
    simp only [IntOp.cmpi, Scalar.select, beq_eq_false_iff_ne.mpr hne]
    exact if_neg (by decide)

/-- Sixteen columns laid side by side, read at row `i` and column `k`. -/
theorem side_by_side (c0 c1 c2 c3 c4 c5 c6 c7 c8 c9 c10 c11 c12 c13 c14 c15 : IVec S512x1 32) (h) (h' : S512x16.ShapeCasts S1x512x16) (i : Fin 512) (w : Fin 16 → BitVec 32)
    (h0 : c0 (ix2 i 0) = w 0) (h1 : c1 (ix2 i 0) = w 1) (h2 : c2 (ix2 i 0) = w 2) (h3 : c3 (ix2 i 0) = w 3) (h4 : c4 (ix2 i 0) = w 4) (h5 : c5 (ix2 i 0) = w 5) (h6 : c6 (ix2 i 0) = w 6) (h7 : c7 (ix2 i 0) = w 7) (h8 : c8 (ix2 i 0) = w 8) (h9 : c9 (ix2 i 0) = w 9) (h10 : c10 (ix2 i 0) = w 10) (h11 : c11 (ix2 i 0) = w 11) (h12 : c12 (ix2 i 0) = w 12) (h13 : c13 (ix2 i 0) = w 13) (h14 : c14 (ix2 i 0) = w 14) (h15 : c15 (ix2 i 0) = w 15) (k : Fin 16) :
    shapeCast S1x512x16 (concatenate S512x16 1 [⟨S512x1, c0⟩, ⟨S512x1, c1⟩, ⟨S512x1, c2⟩, ⟨S512x1, c3⟩, ⟨S512x1, c4⟩, ⟨S512x1, c5⟩, ⟨S512x1, c6⟩, ⟨S512x1, c7⟩, ⟨S512x1, c8⟩, ⟨S512x1, c9⟩, ⟨S512x1, c10⟩, ⟨S512x1, c11⟩, ⟨S512x1, c12⟩, ⟨S512x1, c13⟩, ⟨S512x1, c14⟩, ⟨S512x1, c15⟩] h) h' (ix3 0 i k) = w k := by
  fin_cases k
  · refine Eq.trans ?_ h0; pointwise
  · refine Eq.trans ?_ h1; pointwise
  · refine Eq.trans ?_ h2; pointwise
  · refine Eq.trans ?_ h3; pointwise
  · refine Eq.trans ?_ h4; pointwise
  · refine Eq.trans ?_ h5; pointwise
  · refine Eq.trans ?_ h6; pointwise
  · refine Eq.trans ?_ h7; pointwise
  · refine Eq.trans ?_ h8; pointwise
  · refine Eq.trans ?_ h9; pointwise
  · refine Eq.trans ?_ h10; pointwise
  · refine Eq.trans ?_ h11; pointwise
  · refine Eq.trans ?_ h12; pointwise
  · refine Eq.trans ?_ h13; pointwise
  · refine Eq.trans ?_ h14; pointwise
  · refine Eq.trans ?_ h15; pointwise

/-- The sixteen columns of the neighbours' block: thirteen handed over by the rounds before, three found by the
    last three rounds. -/
theorem last_rounds (v21 v27 v33 v39 v45 v51 v57 v63 v69 v75 v81 v87 v93 : IVec S512x1 32) (v91 : FVec Ideal S512x512 .f32)
    (s12 : Struck D 12 v91) (c0 : Chosen D 0 v21) (c1 : Chosen D 1 v27) (c2 : Chosen D 2 v33) (c3 : Chosen D 3 v39) (c4 : Chosen D 4 v45) (c5 : Chosen D 5 v51) (c6 : Chosen D 6 v57) (c7 : Chosen D 7 v63) (c8 : Chosen D 8 v69) (c9 : Chosen D 9 v75) (c10 : Chosen D 10 v81) (c11 : Chosen D 11 v87) (c12 : Chosen D 12 v93)
    (i : Fin 512) (k : Fin 16) :
    k0_pay32 (iota .tc S512x512 32 [1] iota_S512x512_d1_w32) v21 v27 v33 v39 v45 v51 v57 v63 v69 v75 v81 v87 v91 v93
      (cmpi .eq (iota .tc S512x512 32 [1] iota_S512x512_d1_w32) (broadcastTo S512x512 v93 broadcasts_S512x1_S512x512))
      (Scalar.ofBits .f32 0x7F800000#32) (ix3 0 i k) = BitVec.ofNat 32 (round (D i) k).val := by
  have s13 := struck_of s12 c12 broadcasts_S512x1_S512x512 iota_S512x512_d1_w32
  have c13 := chosen_of s13 reduces_S512x512_S512 shapeCasts_S512_S512x1
  have s14 := struck_of s13 c13 broadcasts_S512x1_S512x512 iota_S512x512_d1_w32
  have c14 := chosen_of s14 reduces_S512x512_S512 shapeCasts_S512_S512x1
  have s15 := struck_of s14 c14 broadcasts_S512x1_S512x512 iota_S512x512_d1_w32
  have c15 := chosen_of s15 reduces_S512x512_S512 shapeCasts_S512_S512x1
  exact side_by_side _ _ _ _ _ _ _ _ _ _ _ _ _ _ _ _ _ _ i (fun k => BitVec.ofNat 32 (round (D i) k).val) (c0 i) (c1 i) (c2 i) (c3 i) (c4 i) (c5 i) (c6 i) (c7 i) (c8 i) (c9 i) (c10 i) (c11 i) (c12 i) (c13 i) (c14 i) (c15 i) k

/-- The neighbours' block: in row `i` and column `k` the column of the distances chosen in round `k`. -/
theorem neighbours_block (v0 : Vec Ideal S1x512x3 .f32) (v2 : Vec Ideal S1x3x512 .f32)
    (hD : ∀ i j, k0_pay4 v0 v2 (ix2 i j) = D i j)
    (v19 : IVec S512x512 32) (h19 : v19 = iota .tc S512x512 32 [1] iota_S512x512_d1_w32)
    (v43 : FVec Ideal S512x512 .f32) (h43 : v43 = k0_pay12 v0 v2) (v44 : IVec S512 32) (h44 : v44 = k0_pay13 v0 v2)
    (i : Fin 512) (k : Fin 16) :
    k0_pay32 v19 (k0_pay5 v0 v2) (k0_pay7 v0 v2) (k0_pay9 v0 v2) (k0_pay11 v0 v2) (k0_pay14 v44) (k0_pay16 v19 v43 v44)
      (k0_pay18 v19 v43 v44) (k0_pay20 v19 v43 v44) (k0_pay22 v19 v43 v44) (k0_pay24 v19 v43 v44) (k0_pay26 v19 v43 v44)
      (k0_pay28 v19 v43 v44) (k0_pay29 v19 v43 v44) (k0_pay30 v19 v43 v44) (k0_pay31 v19 v43 v44)
      (Scalar.ofBits .f32 0x7F800000#32) (ix3 0 i k) = BitVec.ofNat 32 (round (D i) k).val := by
  have s0 : Struck D 0 (k0_pay4 v0 v2) := fun i j => hD i j
  have c0 : Chosen D 0 (k0_pay5 v0 v2) := chosen_of s0 _ _
  have s1 : Struck D 1 (k0_pay6 v0 v2) := struck_of s0 c0 _ _
  have c1 : Chosen D 1 (k0_pay7 v0 v2) := chosen_of s1 _ _
  have s2 : Struck D 2 (k0_pay8 v0 v2) := struck_of s1 c1 _ _
  have c2 : Chosen D 2 (k0_pay9 v0 v2) := chosen_of s2 _ _
  have s3 : Struck D 3 (k0_pay10 v0 v2) := struck_of s2 c2 _ _
  have c3 : Chosen D 3 (k0_pay11 v0 v2) := chosen_of s3 _ _
  have s4 : Struck D 4 v43 := h43 ▸ struck_of s3 c3 _ _
  have c4 : Chosen D 4 (k0_pay14 v44) := by subst h44 h43; exact chosen_of s4 _ _
  clear h43 h44
  subst h19
  set v19 := iota .tc S512x512 32 [1] iota_S512x512_d1_w32
  have s5 : Struck D 5 (k0_pay15 v19 v43 v44) := struck_of s4 c4 _ _
  have c5 : Chosen D 5 (k0_pay16 v19 v43 v44) := chosen_of s5 _ _
  have s6 : Struck D 6 (k0_pay17 v19 v43 v44) := struck_of s5 c5 _ _
  have c6 : Chosen D 6 (k0_pay18 v19 v43 v44) := chosen_of s6 _ _
  have s7 : Struck D 7 (k0_pay19 v19 v43 v44) := struck_of s6 c6 _ _
  have c7 : Chosen D 7 (k0_pay20 v19 v43 v44) := chosen_of s7 _ _
  have s8 : Struck D 8 (k0_pay21 v19 v43 v44) := struck_of s7 c7 _ _
  have c8 : Chosen D 8 (k0_pay22 v19 v43 v44) := chosen_of s8 _ _
  have s9 : Struck D 9 (k0_pay23 v19 v43 v44) := struck_of s8 c8 _ _
  have c9 : Chosen D 9 (k0_pay24 v19 v43 v44) := chosen_of s9 _ _
  have s10 : Struck D 10 (k0_pay25 v19 v43 v44) := struck_of s9 c9 _ _
  have c10 : Chosen D 10 (k0_pay26 v19 v43 v44) := chosen_of s10 _ _
  have s11 : Struck D 11 (k0_pay27 v19 v43 v44) := struck_of s10 c10 _ _
  have c11 : Chosen D 11 (k0_pay28 v19 v43 v44) := chosen_of s11 _ _
  have s12 : Struck D 12 (k0_pay29 v19 v43 v44) := struck_of s11 c11 _ _
  have c12 : Chosen D 12 (k0_pay30 v19 v43 v44) := chosen_of s12 _ _
  exact last_rounds _ _ _ _ _ _ _ _ _ _ _ _ _ _ s12 c0 c1 c2 c3 c4 c5 c6 c7 c8 c9 c10 c11 c12 i k

end Cert.Knn

end
-- ==== Proof.StageA.lean ====
/-
  What the first kernel leaves in its output blocks at one grid point, when its input blocks hold one cloud and
  the transposed weights: the neighbours, the queries, keys and values, and the class point's attention and output.
-/
module

public import proofs.«01_k».proof.Proof.Rounds

@[expose] public section

set_option maxRecDepth 16384

noncomputable section

namespace Cert.Knn

open Idealize.ShloMosaic Cert.KernelIdeal Cert.KernelIdeal.Gen

/-- The offsets of a whole block are zero. -/
theorem zero3 : (![0, 0, 0] : Fin 3 → Nat) = fun _ => 0 := by decide

/-- The input blocks of the first kernel hold cloud `b` and the transposed weights. -/
structure BlocksA (A : Args) (b : Fin 4) (x0 : Vec Ideal S1x512x3 .f32) (x1 : Vec Ideal S1x3x512 .f32)
    (x2 : Vec Ideal S1x512x256 .f32) (x3 : Vec Ideal S1x1x256 .f32) (x4 : Vec Ideal S256x512 .bf16)
    (x5 x6 x7 : Vec Ideal S512x512 .bf16) (x8 : Vec Ideal S256x512 .bf16) (x9 x10 x11 : Vec Ideal S512x512 .bf16)
    (x12 : Vec Ideal S512x256 .bf16) : Prop where
  pts : ∀ n c, x0 (ix3 0 n c) = A.pt b n c
  ptsT : ∀ c n, x1 (ix3 0 c n) = A.pt b n c
  ft : ∀ n k, x2 (ix3 0 n k) = A.ft b n k
  cf : ∀ k, x3 (ix3 0 0 k) = A.cf b k
  fc1 : ∀ k f, x4 (ix2 k f) = A.fc1 f k
  wq : ∀ e f, x5 (ix2 e f) = A.wq f e
  wk : ∀ e f, x6 (ix2 e f) = A.wk f e
  wv : ∀ e f, x7 (ix2 e f) = A.wv f e
  fc1c : ∀ k f, x8 (ix2 k f) = A.fc1c f k
  wqc : ∀ e f, x9 (ix2 e f) = A.wqc f e
  wkc : ∀ e f, x10 (ix2 e f) = A.wkc f e
  wvc : ∀ e f, x11 (ix2 e f) = A.wvc f e
  fc2c : ∀ f o, x12 (ix2 f o) = A.fc2c o f

variable {A : Args} {b : Fin 4} {x0 : Vec Ideal S1x512x3 .f32} {x1 : Vec Ideal S1x3x512 .f32}
  {x2 : Vec Ideal S1x512x256 .f32} {x3 : Vec Ideal S1x1x256 .f32} {x4 : Vec Ideal S256x512 .bf16}
  {x5 x6 x7 : Vec Ideal S512x512 .bf16} {x8 : Vec Ideal S256x512 .bf16} {x9 x10 x11 : Vec Ideal S512x512 .bf16}
  {x12 : Vec Ideal S512x256 .bf16}

/-- The matrix the rounds start from holds the squared distances. -/
theorem BlocksA.dist (h : BlocksA A b x0 x1 x2 x3 x4 x5 x6 x7 x8 x9 x10 x11 x12) (n j : Fin 512) :
    k0_pay4 (View.ld x0 r0_0) (View.ld x1 r0_1) (ix2 n j) = A.dist b n j := by
  unfold_payloads
  pointwise
  simp only [h.pts, h.ptsT]
  rfl

/-- The first output block names the neighbours, if no distance is ⊤. -/
theorem BlocksA.nbr (h : BlocksA A b x0 x1 x2 x3 x4 x5 x6 x7 x8 x9 x10 x11 x12)
    (hd : ∀ n j, A.dist b n j ≠ ⊤) (n : Fin 512) (k : Fin 16) :
    out0_13 x0 x1 x2 x3 x4 x5 x6 x7 x8 x9 x10 x11 x12 (ix3 0 n k) = BitVec.ofNat 32 (A.nbr b n k).val := by
  unfold out0_13
  rw [View.canon_unit_zero zero3]
  refine (neighbours_block _ _ h.dist _ rfl _ rfl _ rfl n k).trans ?_
  rw [Args.nbr, sortedFrom_nearer _ (hd n)]
  rfl

/-- The second output block holds the queries. -/
theorem BlocksA.q (h : BlocksA A b x0 x1 x2 x3 x4 x5 x6 x7 x8 x9 x10 x11 x12) (n f : Fin 512) :
    out0_14 x0 x1 x2 x3 x4 x5 x6 x7 x8 x9 x10 x11 x12 (ix3 0 n f) = A.q b n f := by
  unfold_out out0_14
  rw [View.canon_unit_zero zero3]
  unfold_payloads
  pointwise
  simp only [h.ft, h.fc1, h.wq]
  rfl

/-- The third output block holds the keys. -/
theorem BlocksA.k (h : BlocksA A b x0 x1 x2 x3 x4 x5 x6 x7 x8 x9 x10 x11 x12) (n f : Fin 512) :
    out0_15 x0 x1 x2 x3 x4 x5 x6 x7 x8 x9 x10 x11 x12 (ix3 0 n f) = A.k b n f := by
  unfold_out out0_15
  rw [View.canon_unit_zero zero3]
  unfold_payloads
  pointwise
  simp only [h.ft, h.fc1, h.wk]
  rfl

/-- The fourth output block holds the values. -/
theorem BlocksA.v (h : BlocksA A b x0 x1 x2 x3 x4 x5 x6 x7 x8 x9 x10 x11 x12) (n f : Fin 512) :
    out0_16 x0 x1 x2 x3 x4 x5 x6 x7 x8 x9 x10 x11 x12 (ix3 0 n f) = A.v b n f := by
  unfold_out out0_16
  rw [View.canon_unit_zero zero3]
  unfold_payloads
  pointwise
  simp only [h.ft, h.fc1, h.wv]
  rfl

/-- The last output block holds the class point's attention. -/
theorem BlocksA.cattn (h : BlocksA A b x0 x1 x2 x3 x4 x5 x6 x7 x8 x9 x10 x11 x12) (n : Fin 512) :
    out0_18 x0 x1 x2 x3 x4 x5 x6 x7 x8 x9 x10 x11 x12 (ix3 0 0 n) = A.cattn b n := by
  unfold_out out0_18
  rw [View.canon_unit_zero zero3]
  unfold_payloads
  pointwise
  simp only [h.ft, h.cf, h.fc1, h.fc1c, h.wqc, h.wkc, word_bot]
  rfl

/-- The fifth output block holds the class point's output features. -/
theorem BlocksA.cout (h : BlocksA A b x0 x1 x2 x3 x4 x5 x6 x7 x8 x9 x10 x11 x12) (o : Fin 256) :
    out0_17 x0 x1 x2 x3 x4 x5 x6 x7 x8 x9 x10 x11 x12 (ix3 0 0 o) = A.cout b o := by
  unfold_out out0_17
  rw [View.canon_unit_zero zero3]
  unfold_payloads
  pointwise
  simp only [h.ft, h.cf, h.fc1, h.fc1c, h.wqc, h.wkc, h.wvc, h.fc2c, word_bot]
  rfl

end Cert.Knn

end
-- ==== Proof.Finite.lean ====
/-
  Real numbers among the extended reals. With real arguments every logit and every distance is a real number, so
  no softmax divides by zero, and a value less itself is zero.
-/
module

public import proofs.«01_k».proof.Proof.Consts

@[expose] public section

noncomputable section

namespace Cert.Knn

open Idealize.ShloMosaic

/-- The value is a real number. -/
def IsReal (x : EReal) : Prop := ∃ r : ℝ, x = (r : EReal)

theorem IsReal.zero : IsReal 0 := ⟨0, rfl⟩

theorem IsReal.add {x y : EReal} : IsReal x → IsReal y → IsReal (x + y) := by
  rintro ⟨r, rfl⟩ ⟨s, rfl⟩; exact ⟨r + s, (EReal.coe_add r s).symm⟩

theorem IsReal.sub {x y : EReal} : IsReal x → IsReal y → IsReal (x - y) := by
  rintro ⟨r, rfl⟩ ⟨s, rfl⟩; exact ⟨r - s, (EReal.coe_sub r s).symm⟩

theorem IsReal.mul {x y : EReal} : IsReal x → IsReal y → IsReal (x * y) := by
  rintro ⟨r, rfl⟩ ⟨s, rfl⟩; exact ⟨r * s, (EReal.coe_mul r s).symm⟩

theorem IsReal.max {x y : EReal} (hx : IsReal x) (hy : IsReal y) : IsReal (max x y) := by
  rcases max_choice x y with h | h <;> rw [h] <;> assumption

theorem IsReal.sum {ι : Type} (s : Finset ι) {g : ι → EReal} (h : ∀ i, IsReal (g i)) : IsReal (∑ i ∈ s, g i) :=
  Finset.sum_induction _ IsReal (fun _ _ => IsReal.add) IsReal.zero fun i _ => h i

/-- A real number divided by the scale is real. -/
theorem IsReal.scaled {x : EReal} : IsReal x → IsReal (Ideal.div x scale) := by
  rintro ⟨r, rfl⟩
  have h : Real.sqrt 512 ≠ 0 := by positivity
  rw [scale_real, Ideal.div_coe h]
  exact ⟨_, (EReal.coe_mul _ _).symm⟩

theorem IsReal.ne_top {x : EReal} : IsReal x → x ≠ ⊤ := by rintro ⟨r, rfl⟩; exact EReal.coe_ne_top r

/-- A real number less itself is zero. -/
theorem IsReal.sub_self {x : EReal} : IsReal x → x - x = 0 := by
  rintro ⟨r, rfl⟩; rw [← EReal.coe_sub, _root_.sub_self]; rfl

/-- A value whose magnitude is below ⊤ is real. -/
theorem isReal_of_abs {x : EReal} (h : max x (-x) < ⊤) : IsReal x := by
  have h1 : x ≠ ⊤ := fun e => by subst e; simp at h
  have h2 : x ≠ ⊥ := fun e => by subst e; simp at h
  exact ⟨x.toReal, (EReal.coe_toReal h1 h2).symm⟩

/-- Two is real. -/
theorem isReal_two : IsReal two := ⟨2, two_real⟩

/-- The greatest of finitely many values, at least one, is one of them. -/
theorem peak_mem {n : Nat} (l : Fin (n + 1) → EReal) : ∃ k, peak l = l k := by
  have h : peak l = Finset.univ.sup l := rfl
  obtain ⟨k, -, hk⟩ := Finset.exists_mem_eq_sup Finset.univ Finset.univ_nonempty l
  exact ⟨k, h.trans hk⟩

/-- An exponential is not negative. -/
theorem exp_nonneg (x : EReal) : 0 ≤ Ideal.exp x := by
  induction x using EReal.rec with
  | bot => exact le_rfl
  | top => exact le_top
  | coe r => exact EReal.coe_nonneg.mpr (Real.exp_pos r).le

/-- The sum a softmax of real logits divides by is not zero: the greatest logit gives it a one. -/
theorem denominator_ne_zero {n : Nat} (l : Fin (n + 1) → EReal) (h : ∀ k, IsReal (l k)) : ∑ i, expo l i ≠ 0 := by
  obtain ⟨k, hk⟩ := peak_mem l
  have h1 : expo l k = 1 := by
    rw [expo, hk, (h k).sub_self]
    show ((Real.exp 0 : ℝ) : EReal) = 1
    rw [Real.exp_zero]; rfl
  have h2 : expo l k ≤ ∑ i, expo l i :=
    Finset.single_le_sum (f := expo l) (fun i _ => exp_nonneg (l i - peak l)) (Finset.mem_univ k)
  rw [h1] at h2
  exact (lt_of_lt_of_le zero_lt_one h2).ne'

/-- Multiplying by one over the sum is dividing by the sum, for real logits. -/
theorem softmax_mul {n : Nat} (l : Fin (n + 1) → EReal) (h : ∀ k, IsReal (l k)) (k : Fin (n + 1)) :
    expo l k * Ideal.div 1 (∑ i, expo l i) = softmax l k := by
  have hz := denominator_ne_zero l h
  rw [softmax, Ideal.div, Ideal.div, if_neg hz, if_neg hz, one_mul]

/-- The arguments the neighbours and the logits are computed from are real. -/
structure Args.Regular (A : Args) : Prop where
  xyz : ∀ b n c, IsReal (A.xyz b n c)
  features : ∀ b n k, IsReal (A.features b n k)
  fc1 : ∀ f k, IsReal (A.fc1 f k)
  fcd1 : ∀ f c, IsReal (A.fcd1 f c)
  fcd2 : ∀ f e, IsReal (A.fcd2 f e)
  fcg1 : ∀ f e, IsReal (A.fcg1 f e)
  fcg2 : ∀ f e, IsReal (A.fcg2 f e)
  wq : ∀ f e, IsReal (A.wq f e)
  wk : ∀ f e, IsReal (A.wk f e)

namespace Args.Regular

variable {A : Args} (h : A.Regular) (b : Fin 4)
include h

theorem pt (n : Fin 512) (c : Fin 3) : IsReal (A.pt b n c) := h.xyz b _ c

/-- The distances are real. -/
theorem dist (n j : Fin 512) : IsReal (A.dist b n j) :=
  ((IsReal.sum _ fun c => (h.pt b n c).mul (h.pt b n c)).add (.sum _ fun c => (h.pt b j c).mul (h.pt b j c))).sub
    (isReal_two.mul (.sum _ fun c => (h.pt b n c).mul (h.pt b j c)))

theorem x (n f : Fin 512) : IsReal (A.x b n f) := .sum _ fun k => (h.features b _ k).mul (h.fc1 f k)

theorem q (n f : Fin 512) : IsReal (A.q b n f) := .sum _ fun e => (h.x b n e).mul (h.wq f e)

theorem k (n f : Fin 512) : IsReal (A.k b n f) := .sum _ fun e => (h.x b n e).mul (h.wk f e)

theorem delta (n : Fin 512) (k : Fin 16) (c : Fin 3) : IsReal (A.delta b n k c) := (h.pt b n c).sub (h.pt b _ c)

theorem hid (n : Fin 512) (k : Fin 16) (f : Fin 512) : IsReal (A.hid b n k f) :=
  (IsReal.sum _ fun c => (h.delta b n k c).mul (h.fcd1 f c)).max .zero

theorem pos (n : Fin 512) (k : Fin 16) (f : Fin 512) : IsReal (A.pos b n k f) :=
  .sum _ fun e => (h.hid b n k e).mul (h.fcd2 f e)

theorem gin (n : Fin 512) (k : Fin 16) (f : Fin 512) : IsReal (A.gin b n k f) :=
  ((h.q b n f).sub (h.k b _ f)).add (h.pos b n k f)

theorem gam (n : Fin 512) (k : Fin 16) (f : Fin 512) : IsReal (A.gam b n k f) :=
  (IsReal.sum _ fun e => (h.gin b n k e).mul (h.fcg1 f e)).max .zero

/-- The logits of the neighbours are real. -/
theorem logit (n f : Fin 512) (k : Fin 16) : IsReal (A.logit b n f k) :=
  (IsReal.sum _ fun e => (h.gam b n k e).mul (h.fcg2 f e)).scaled

end Args.Regular

end Cert.Knn

end
-- ==== Proof.LaunchA.lean ====
/-
  The first launch: point `t` of its grid works on cloud `t`, so its outputs hold, cloud by cloud, the neighbours,
  queries, keys and values, the class point's output and its attention.
-/
module

public import proofs.«01_k».proof.Proof.HostReads
public import proofs.«01_k».proof.Proof.StageA
public import proofs.«01_k».proof.Proof.Finite
public import Idealize.ShloMosaic.Lib.Pipeline.ValueKit.Geometry

@[expose] public section

set_option maxRecDepth 16384

noncomputable section

namespace Cert.Knn.Ker

open Idealize.ShloMosaic Idealize.ShloMosaic.TcCoe Cert.KernelIdeal Cert.KernelIdeal.Gen

variable (m : (ℓ : Loc nD τ sig) → Buf (Elt Ideal) ℓ) (ρ : Dev nD → PrngReg) (c : Dev nD)
  (V : (c : Dev nD) → (b : Ref sig .tc) → Buf (Elt Ideal) ((c : Thread nD τ).loc b))

/-- The cloud that a point of the first launch's grid works on. -/
def cloudA (t : Fin cfg0.N) : Fin 4 := ⟨t.val, N_0 ▸ t.isLt⟩

theorem cloudA_val (t : Fin cfg0.N) : (cloudA t).val = t.val := rfl

/-! ## Where the windows stand -/

theorem window0_0 : ∀ t : Fin grid0.N, win0_0.index t = ![t.val, 0, 0] := by decide +kernel
theorem window0_1 : ∀ t : Fin grid0.N, win0_1.index t = ![t.val, 0, 0] := by decide +kernel
theorem window0_2 : ∀ t : Fin grid0.N, win0_2.index t = ![t.val, 0, 0] := by decide +kernel
theorem window0_3 : ∀ t : Fin grid0.N, win0_3.index t = ![t.val, 0, 0] := by decide +kernel
theorem window0_13 : ∀ t : Fin grid0.N, win0_13.index t = ![t.val, 0, 0] := by decide +kernel
theorem window0_14 : ∀ t : Fin grid0.N, win0_14.index t = ![t.val, 0, 0] := by decide +kernel
theorem window0_15 : ∀ t : Fin grid0.N, win0_15.index t = ![t.val, 0, 0] := by decide +kernel
theorem window0_16 : ∀ t : Fin grid0.N, win0_16.index t = ![t.val, 0, 0] := by decide +kernel
theorem window0_17 : ∀ t : Fin grid0.N, win0_17.index t = ![t.val, 0, 0] := by decide +kernel
theorem window0_18 : ∀ t : Fin grid0.N, win0_18.index t = ![t.val, 0, 0] := by decide +kernel
theorem window0_4 : ∀ t : Fin grid0.N, win0_4.index t = ![0, 0] := by decide +kernel
theorem window0_5 : ∀ t : Fin grid0.N, win0_5.index t = ![0, 0] := by decide +kernel
theorem window0_6 : ∀ t : Fin grid0.N, win0_6.index t = ![0, 0] := by decide +kernel
theorem window0_7 : ∀ t : Fin grid0.N, win0_7.index t = ![0, 0] := by decide +kernel
theorem window0_8 : ∀ t : Fin grid0.N, win0_8.index t = ![0, 0] := by decide +kernel
theorem window0_9 : ∀ t : Fin grid0.N, win0_9.index t = ![0, 0] := by decide +kernel
theorem window0_10 : ∀ t : Fin grid0.N, win0_10.index t = ![0, 0] := by decide +kernel
theorem window0_11 : ∀ t : Fin grid0.N, win0_11.index t = ![0, 0] := by decide +kernel
theorem window0_12 : ∀ t : Fin grid0.N, win0_12.index t = ![0, 0] := by decide +kernel

/-! ## The input blocks -/

theorem block0_0 (t : Fin cfg0.N) (n : Fin 512) (k : Fin 3) :
    (iblk0 V c 0 t : Vec Ideal S1x512x3 .f32) (ix3 0 n k) = (V c main_v0 : Vec Ideal S4x512x3 .f32) (ix3 (cloudA t) n k) := by
  unfold iblk0
  refine congrArg (V c main_v0) ?_
  blk_ext [window0_0 t, cloudA_val]

theorem block0_1 (t : Fin cfg0.N) (k : Fin 3) (n : Fin 512) :
    (iblk0 V c 1 t : Vec Ideal S1x3x512 .f32) (ix3 0 k n) = (V c main_v14 : Vec Ideal S4x3x512 .f32) (ix3 (cloudA t) k n) := by
  unfold iblk0
  refine congrArg (V c main_v14) ?_
  blk_ext [window0_1 t, cloudA_val]

theorem block0_2 (t : Fin cfg0.N) (n : Fin 512) (k : Fin 256) :
    (iblk0 V c 2 t : Vec Ideal S1x512x256 .f32) (ix3 0 n k) = (V c main_v2 : Vec Ideal S4x512x256 .f32) (ix3 (cloudA t) n k) := by
  unfold iblk0
  refine congrArg (V c main_v2) ?_
  blk_ext [window0_2 t, cloudA_val]

theorem block0_3 (t : Fin cfg0.N) (k : Fin 256) :
    (iblk0 V c 3 t : Vec Ideal S1x1x256 .f32) (ix3 0 0 k) = (V c main_v1 : Vec Ideal S4x1x256 .f32) (ix3 (cloudA t) 0 k) := by
  unfold iblk0
  refine congrArg (V c main_v1) ?_
  blk_ext [window0_3 t, cloudA_val]

theorem block0_4 (t : Fin cfg0.N) (i : Fin 256) (j : Fin 512) :
    (iblk0 V c 4 t : Vec Ideal S256x512 .bf16) (ix2 i j) = (V c main_v16 : Vec Ideal S256x512 .bf16) (ix2 i j) := by
  unfold iblk0
  refine congrArg (V c main_v16) ?_
  blk_ext [window0_4 t, cloudA_val]

theorem block0_5 (t : Fin cfg0.N) (i : Fin 512) (j : Fin 512) :
    (iblk0 V c 5 t : Vec Ideal S512x512 .bf16) (ix2 i j) = (V c main_v18 : Vec Ideal S512x512 .bf16) (ix2 i j) := by
  unfold iblk0
  refine congrArg (V c main_v18) ?_
  blk_ext [window0_5 t, cloudA_val]

theorem block0_6 (t : Fin cfg0.N) (i : Fin 512) (j : Fin 512) :
    (iblk0 V c 6 t : Vec Ideal S512x512 .bf16) (ix2 i j) = (V c main_v20 : Vec Ideal S512x512 .bf16) (ix2 i j) := by
  unfold iblk0
  refine congrArg (V c main_v20) ?_
  blk_ext [window0_6 t, cloudA_val]

theorem block0_7 (t : Fin cfg0.N) (i : Fin 512) (j : Fin 512) :
    (iblk0 V c 7 t : Vec Ideal S512x512 .bf16) (ix2 i j) = (V c main_v22 : Vec Ideal S512x512 .bf16) (ix2 i j) := by
  unfold iblk0
  refine congrArg (V c main_v22) ?_
  blk_ext [window0_7 t, cloudA_val]

theorem block0_8 (t : Fin cfg0.N) (i : Fin 256) (j : Fin 512) :
    (iblk0 V c 8 t : Vec Ideal S256x512 .bf16) (ix2 i j) = (V c main_v24 : Vec Ideal S256x512 .bf16) (ix2 i j) := by
  unfold iblk0
  refine congrArg (V c main_v24) ?_
  blk_ext [window0_8 t, cloudA_val]

theorem block0_9 (t : Fin cfg0.N) (i : Fin 512) (j : Fin 512) :
    (iblk0 V c 9 t : Vec Ideal S512x512 .bf16) (ix2 i j) = (V c main_v26 : Vec Ideal S512x512 .bf16) (ix2 i j) := by
  unfold iblk0
  refine congrArg (V c main_v26) ?_
  blk_ext [window0_9 t, cloudA_val]

theorem block0_10 (t : Fin cfg0.N) (i : Fin 512) (j : Fin 512) :
    (iblk0 V c 10 t : Vec Ideal S512x512 .bf16) (ix2 i j) = (V c main_v28 : Vec Ideal S512x512 .bf16) (ix2 i j) := by
  unfold iblk0
  refine congrArg (V c main_v28) ?_
  blk_ext [window0_10 t, cloudA_val]

theorem block0_11 (t : Fin cfg0.N) (i : Fin 512) (j : Fin 512) :
    (iblk0 V c 11 t : Vec Ideal S512x512 .bf16) (ix2 i j) = (V c main_v30 : Vec Ideal S512x512 .bf16) (ix2 i j) := by
  unfold iblk0
  refine congrArg (V c main_v30) ?_
  blk_ext [window0_11 t, cloudA_val]

theorem block0_12 (t : Fin cfg0.N) (i : Fin 512) (j : Fin 256) :
    (iblk0 V c 12 t : Vec Ideal S512x256 .bf16) (ix2 i j) = (V c main_v32 : Vec Ideal S512x256 .bf16) (ix2 i j) := by
  unfold iblk0
  refine congrArg (V c main_v32) ?_
  blk_ext [window0_12 t, cloudA_val]

/-- At every point the input blocks hold its cloud and the weights. -/
theorem blocksA (t : Fin cfg0.N) : BlocksA (argsOf m c) (cloudA t) (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (iblk0 (V1 m ρ) c 11 t) (iblk0 (V1 m ρ) c 12 t) where
  pts n k := (block0_0 c (V1 m ρ) t n k).trans (v0_at m ρ c _ n k)
  ptsT k n := (block0_1 c (V1 m ρ) t k n).trans (v14_at m ρ c _ k n)
  ft n k := (block0_2 c (V1 m ρ) t n k).trans (v2_at m ρ c _ n k)
  cf k := (block0_3 c (V1 m ρ) t k).trans (v1_at m ρ c _ k)
  fc1 i j := (block0_4 c (V1 m ρ) t i j).trans (v16_at m ρ c i j)
  wq i j := (block0_5 c (V1 m ρ) t i j).trans (v18_at m ρ c i j)
  wk i j := (block0_6 c (V1 m ρ) t i j).trans (v20_at m ρ c i j)
  wv i j := (block0_7 c (V1 m ρ) t i j).trans (v22_at m ρ c i j)
  fc1c i j := (block0_8 c (V1 m ρ) t i j).trans (v24_at m ρ c i j)
  wqc i j := (block0_9 c (V1 m ρ) t i j).trans (v26_at m ρ c i j)
  wkc i j := (block0_10 c (V1 m ρ) t i j).trans (v28_at m ρ c i j)
  wvc i j := (block0_11 c (V1 m ρ) t i j).trans (v30_at m ρ c i j)
  fc2c i j := (block0_12 c (V1 m ρ) t i j).trans (v32_at m ρ c i j)

/-! ## The output arrays -/

/-- Output 13 is `G` if every point leaves its cloud of `G`. -/
theorem array0_13 (G : Vec Ideal S4x512x16 .i32) (h : ∀ (t : Fin cfg0.N) (n : Fin 512) (f : Fin 16),
    ((dat0 V c).after 13 t : Vec Ideal S1x512x16 .i32) (ix3 0 n f) = G (ix3 (cloudA t) n f)) : (dat0 V c).arrAt 13 cfg0.N = G := by
  refine (dat0 V c).arrAt_eq_of_covers 13 G (by decide +kernel) fun t hf y => ?_
  blk_simp
  idx_vars y
  obtain rfl : y0 = 0 := Subsingleton.elim _ _
  have e : (win0_13.blk t).view.emb (ix3 0 y1 y2) = (ix3 (cloudA t) y1 y2 : S4x512x16.Idx) := by
    blk_ext [window0_13 t, cloudA_val]
  exact (h t y1 y2).trans (congrArg G e.symm)

/-- Output 14 is `G` if every point leaves its cloud of `G`. -/
theorem array0_14 (G : Vec Ideal S4x512x512 .f32) (h : ∀ (t : Fin cfg0.N) (n f : Fin 512),
    ((dat0 V c).after 14 t : Vec Ideal S1x512x512 .f32) (ix3 0 n f) = G (ix3 (cloudA t) n f)) : (dat0 V c).arrAt 14 cfg0.N = G := by
  refine (dat0 V c).arrAt_eq_of_covers 14 G (by decide +kernel) fun t hf y => ?_
  blk_simp
  idx_vars y
  obtain rfl : y0 = 0 := Subsingleton.elim _ _
  have e : (win0_14.blk t).view.emb (ix3 0 y1 y2) = (ix3 (cloudA t) y1 y2 : S4x512x512.Idx) := by
    blk_ext [window0_14 t, cloudA_val]
  exact (h t y1 y2).trans (congrArg G e.symm)

/-- Output 15 is `G` if every point leaves its cloud of `G`. -/
theorem array0_15 (G : Vec Ideal S4x512x512 .bf16) (h : ∀ (t : Fin cfg0.N) (n f : Fin 512),
    ((dat0 V c).after 15 t : Vec Ideal S1x512x512 .bf16) (ix3 0 n f) = G (ix3 (cloudA t) n f)) : (dat0 V c).arrAt 15 cfg0.N = G := by
  refine (dat0 V c).arrAt_eq_of_covers 15 G (by decide +kernel) fun t hf y => ?_
  blk_simp
  idx_vars y
  obtain rfl : y0 = 0 := Subsingleton.elim _ _
  have e : (win0_15.blk t).view.emb (ix3 0 y1 y2) = (ix3 (cloudA t) y1 y2 : S4x512x512.Idx) := by
    blk_ext [window0_15 t, cloudA_val]
  exact (h t y1 y2).trans (congrArg G e.symm)

/-- Output 16 is `G` if every point leaves its cloud of `G`. -/
theorem array0_16 (G : Vec Ideal S4x512x512 .bf16) (h : ∀ (t : Fin cfg0.N) (n f : Fin 512),
    ((dat0 V c).after 16 t : Vec Ideal S1x512x512 .bf16) (ix3 0 n f) = G (ix3 (cloudA t) n f)) : (dat0 V c).arrAt 16 cfg0.N = G := by
  refine (dat0 V c).arrAt_eq_of_covers 16 G (by decide +kernel) fun t hf y => ?_
  blk_simp
  idx_vars y
  obtain rfl : y0 = 0 := Subsingleton.elim _ _
  have e : (win0_16.blk t).view.emb (ix3 0 y1 y2) = (ix3 (cloudA t) y1 y2 : S4x512x512.Idx) := by
    blk_ext [window0_16 t, cloudA_val]
  exact (h t y1 y2).trans (congrArg G e.symm)

/-- Output 17 is `G` if every point leaves its cloud of `G`. -/
theorem array0_17 (G : Vec Ideal S4x1x256 .f32) (h : ∀ (t : Fin cfg0.N) (n : Fin 1) (f : Fin 256),
    ((dat0 V c).after 17 t : Vec Ideal S1x1x256 .f32) (ix3 0 n f) = G (ix3 (cloudA t) n f)) : (dat0 V c).arrAt 17 cfg0.N = G := by
  refine (dat0 V c).arrAt_eq_of_covers 17 G (by decide +kernel) fun t hf y => ?_
  blk_simp
  idx_vars y
  obtain rfl : y0 = 0 := Subsingleton.elim _ _
  have e : (win0_17.blk t).view.emb (ix3 0 y1 y2) = (ix3 (cloudA t) y1 y2 : S4x1x256.Idx) := by
    blk_ext [window0_17 t, cloudA_val]
  exact (h t y1 y2).trans (congrArg G e.symm)

/-- Output 18 is `G` if every point leaves its cloud of `G`. -/
theorem array0_18 (G : Vec Ideal S4x1x512 .f32) (h : ∀ (t : Fin cfg0.N) (n : Fin 1) (f : Fin 512),
    ((dat0 V c).after 18 t : Vec Ideal S1x1x512 .f32) (ix3 0 n f) = G (ix3 (cloudA t) n f)) : (dat0 V c).arrAt 18 cfg0.N = G := by
  refine (dat0 V c).arrAt_eq_of_covers 18 G (by decide +kernel) fun t hf y => ?_
  blk_simp
  idx_vars y
  obtain rfl : y0 = 0 := Subsingleton.elim _ _
  have e : (win0_18.blk t).view.emb (ix3 0 y1 y2) = (ix3 (cloudA t) y1 y2 : S4x1x512.Idx) := by
    blk_ext [window0_18 t, cloudA_val]
  exact (h t y1 y2).trans (congrArg G e.symm)

/-- The neighbours. -/
theorem after_nbr (hA : (argsOf m c).Regular) : (dat0 (V1 m ρ) c).arrAt 13 cfg0.N = (fun i => BitVec.ofNat 32 ((argsOf m c).nbr (i 0) (i 1) (i 2)).val : Vec Ideal S4x512x16 .i32) := by
  refine array0_13 c (V1 m ρ) _ fun t n f => ?_
  rw [after0_13]
  exact (blocksA m ρ c t).nbr (fun n j => (hA.dist (cloudA t) n j).ne_top) n f

/-- The queries. -/
theorem after_q : (dat0 (V1 m ρ) c).arrAt 14 cfg0.N = (fun i => (argsOf m c).q (i 0) (i 1) (i 2) : Vec Ideal S4x512x512 .f32) := by
  refine array0_14 c (V1 m ρ) _ fun t n f => ?_
  rw [after0_14]
  exact (blocksA m ρ c t).q n f

/-- The keys. -/
theorem after_k : (dat0 (V1 m ρ) c).arrAt 15 cfg0.N = (fun i => (argsOf m c).k (i 0) (i 1) (i 2) : Vec Ideal S4x512x512 .bf16) := by
  refine array0_15 c (V1 m ρ) _ fun t n f => ?_
  rw [after0_15]
  exact (blocksA m ρ c t).k n f

/-- The values. -/
theorem after_v : (dat0 (V1 m ρ) c).arrAt 16 cfg0.N = (fun i => (argsOf m c).v (i 0) (i 1) (i 2) : Vec Ideal S4x512x512 .bf16) := by
  refine array0_16 c (V1 m ρ) _ fun t n f => ?_
  rw [after0_16]
  exact (blocksA m ρ c t).v n f

/-- The class point's output. -/
theorem after_cout : (dat0 (V1 m ρ) c).arrAt 17 cfg0.N = (fun i => (argsOf m c).cout (i 0) (i 2) : Vec Ideal S4x1x256 .f32) := by
  refine array0_17 c (V1 m ρ) _ fun t n f => ?_
  rw [after0_17]
  obtain rfl : n = 0 := Subsingleton.elim _ _
  exact (blocksA m ρ c t).cout f

/-- The class point's attention. -/
theorem after_cattn : (dat0 (V1 m ρ) c).arrAt 18 cfg0.N = (fun i => (argsOf m c).cattn (i 0) (i 2) : Vec Ideal S4x1x512 .f32) := by
  refine array0_18 c (V1 m ρ) _ fun t n f => ?_
  rw [after0_18]
  obtain rfl : n = 0 := Subsingleton.elim _ _
  exact (blocksA m ρ c t).cattn f

end Cert.Knn.Ker

end
-- ==== Proof.StageB.lean ====
/-
  What the second kernel leaves in its output blocks at one grid point, when its input blocks hold one cloud, a
  block of 128 of its points with the numbers of their neighbours, and the weights: the attention and the output.

  A product with a matrix that has a single one in every row reads that row's entry: it is a gather. The parts a
  number loses when it is rounded to a short format are zero here, because a format keeps every number; so the
  nine columns of the split offsets times the nine rows of the split weights are the offsets times the weights.
-/
module

public import proofs.«01_k».proof.Proof.StageA
public import proofs.«01_k».proof.Proof.Finite

@[expose] public section

set_option maxRecDepth 16384

noncomputable section

namespace Cert.Knn

open Idealize.ShloMosaic Cert.KernelIdeal Cert.KernelIdeal.Gen

/-- The offsets of a whole block of rank 4 are zero. -/
theorem zero4 : (![0, 0, 0, 0] : Fin 4 → Nat) = fun _ => 0 := by decide

/-- The offsets of a whole block of rank 2 are zero. -/
theorem zero2 : (![0, 0] : Fin 2 → Nat) = fun _ => 0 := by decide

/-- The row of a block's table that belongs to a point and one of its neighbours. -/
def slot (p : Fin 128) (k : Fin 16) : Fin 2048 := ⟨p.val * 16 + k.val, by have := p.isLt; have := k.isLt; omega⟩

/-- The input blocks of the second kernel hold cloud `b`, the points `row p` of it, and the weights. -/
structure BlocksB (A : Args) (b : Fin 4) (row : Fin 128 → Fin 512) (x0 : Vec Ideal S1x2048x1 .i32)
    (x1 : Vec Ideal S1x128x512 .f32) (x2 : Vec Ideal S1x128x256 .f32) (x3 : Vec Ideal S1x128x3 .f32)
    (x4 x5 : Vec Ideal S1x512x512 .bf16) (x6 x7 : Vec Ideal S1x512x3 .bf16) (x8 : Vec Ideal S9x512 .bf16)
    (x9 x10 x11 : Vec Ideal S512x512 .bf16) (x12 : Vec Ideal S512x256 .bf16) : Prop where
  nbr : ∀ p k, x0 (ix3 0 (slot p k) 0) = BitVec.ofNat 32 (A.nbr b (row p) k).val
  q : ∀ p f, x1 (ix3 0 p f) = A.q b (row p) f
  ft : ∀ p k, x2 (ix3 0 p k) = A.ft b (row p) k
  pts : ∀ p c, x3 (ix3 0 p c) = A.pt b (row p) c
  k : ∀ n f, x4 (ix3 0 n f) = A.k b n f
  v : ∀ n f, x5 (ix3 0 n f) = A.v b n f
  hi : ∀ n c, x6 (ix3 0 n c) = A.pt b n c
  lo : ∀ n c, x7 (ix3 0 n c) = A.pt b n c - A.pt b n c
  fcd1_hi : ∀ (c : Fin 3) f, x8 (ix2 ⟨c.val, by omega⟩ f) = A.fcd1 f c
  fcd1_lo : ∀ (c : Fin 3) f, x8 (ix2 ⟨3 + c.val, by omega⟩ f) = A.fcd1 f c - A.fcd1 f c
  fcd1_re : ∀ (c : Fin 3) f, x8 (ix2 ⟨6 + c.val, by omega⟩ f) = A.fcd1 f c
  fcd2 : ∀ e f, x9 (ix2 e f) = A.fcd2 f e
  fcg1 : ∀ e f, x10 (ix2 e f) = A.fcg1 f e
  fcg2 : ∀ e f, x11 (ix2 e f) = A.fcg2 f e
  fc2 : ∀ f o, x12 (ix2 f o) = A.fc2 o f

/-- A row of the selection matrix has its one at the neighbour's number. -/
theorem selected (x0 : Vec Ideal S1x2048x1 .i32) (r : Fin 2048) (i : Fin 512)
    (h : x0 (ix3 0 r 0) = BitVec.ofNat 32 i.val) (n : Fin 512) :
    k1_pay4 (F := Ideal) x0 (ix2 r n) = if n = i then 1 else 0 := by
  unfold_payloads
  pointwise
  rw [h]
  have hi := i.isLt
  have hn := n.isLt
  have e : (BitVec.setWidth 16 (BitVec.ofNat 32 i.val) = BitVec.ofNat 16 n.val) ↔ n = i := by
    rw [← BitVec.toNat_inj, Fin.ext_iff]
    simp only [BitVec.toNat_setWidth, BitVec.toNat_ofNat]
    omega
  by_cases hni : n = i
  · rw [if_pos hni, e.mpr hni]
    simp [Scalar.select, IntOp.cmpi]
  · rw [if_neg hni]
    have : (BitVec.setWidth 16 (BitVec.ofNat 32 i.val) == BitVec.ofNat 16 n.val) = false :=
      beq_eq_false_iff_ne.mpr fun hh => hni (e.mp hh)
    rw [IntOp.cmpi, this]
    exact if_neg (by decide)

/-- The product of a selection row with a column reads the column at the selected row. -/
theorem gathered (x0 : Vec Ideal S1x2048x1 .i32) (r : Fin 2048) (i : Fin 512)
    (h : x0 (ix3 0 r 0) = BitVec.ofNat 32 i.val) (g : Fin 512 → EReal) :
    ∑ n, k1_pay4 (F := Ideal) x0 (ix2 r n) * g n = g i := by
  rw [Finset.sum_eq_single i]
  · rw [selected x0 r i h, if_pos rfl, one_mul]
  · intro n _ hn
    rw [selected x0 r i h, if_neg hn, zero_mul]
  · intro hn
    exact absurd (Finset.mem_univ i) hn

/-- A sum over nine columns, three at a time. -/
theorem sum_nine (g : Fin 9 → EReal) :
    ∑ j, g j = ∑ c : Fin 3, (g ⟨c.val, by omega⟩ + g ⟨3 + c.val, by omega⟩ + g ⟨6 + c.val, by omega⟩) := by
  rw [Finset.sum_add_distrib, Finset.sum_add_distrib, Fin.sum_univ_add (a := 6) (b := 3) (fun j : Fin (6 + 3) => g j),
    Fin.sum_univ_add (a := 3) (b := 3) (fun j : Fin (3 + 3) => g (Fin.castAdd 3 j))]
  rfl

variable {A : Args} {b : Fin 4} {row : Fin 128 → Fin 512} {x0 : Vec Ideal S1x2048x1 .i32}
  {x1 : Vec Ideal S1x128x512 .f32} {x2 : Vec Ideal S1x128x256 .f32} {x3 : Vec Ideal S1x128x3 .f32}
  {x4 x5 : Vec Ideal S1x512x512 .bf16} {x6 x7 : Vec Ideal S1x512x3 .bf16} {x8 : Vec Ideal S9x512 .bf16}
  {x9 x10 x11 : Vec Ideal S512x512 .bf16} {x12 : Vec Ideal S512x256 .bf16}

section
variable (h : BlocksB A b row x0 x1 x2 x3 x4 x5 x6 x7 x8 x9 x10 x11 x12) (hA : A.Regular)
include h

/-- The gathered keys. -/
theorem BlocksB.keys (p : Fin 128) (k : Fin 16) (f : Fin 512) :
    k1_pay5 x0 x4 (ix2 (slot p k) f) = A.k b (A.nbr b (row p) k) f := by
  unfold k1_pay5
  pointwise
  rw [gathered x0 _ _ (h.nbr p k) fun n => x4 (ix3 0 n f), h.k]

/-- The gathered values. -/
theorem BlocksB.values (p : Fin 128) (k : Fin 16) (f : Fin 512) :
    k1_pay6 x0 x5 (ix2 (slot p k) f) = A.v b (A.nbr b (row p) k) f := by
  unfold k1_pay6
  pointwise
  rw [gathered x0 _ _ (h.nbr p k) fun n => x5 (ix3 0 n f), h.v]

include hA

/-- The nine columns of the split offsets: the offsets twice, then the parts lost in rounding, which are zero. -/
theorem BlocksB.offsets (p : Fin 128) (k : Fin 16) (c : Fin 3) :
    k1_pay7 x0 x6 x7 x3 (ix2 (slot p k) ⟨c.val, by omega⟩) = A.delta b (row p) k c
      ∧ k1_pay7 x0 x6 x7 x3 (ix2 (slot p k) ⟨3 + c.val, by omega⟩) = A.delta b (row p) k c
      ∧ k1_pay7 x0 x6 x7 x3 (ix2 (slot p k) ⟨6 + c.val, by omega⟩) = 0 := by
  have hc := c.isLt
  have hk := k.isLt
  have hp : ∀ hlt, (⟨(slot p k).val / 16, hlt⟩ : Fin 128) = p := fun _ =>
    Fin.ext (show (p.val * 16 + k.val) / 16 = p.val by omega)
  have key : ∀ c : Fin 3, x3 (ix3 0 p c) - ((∑ n, k1_pay4 (F := Ideal) x0 (ix2 (slot p k) n) * x6 (ix3 0 n c))
      + ∑ n, k1_pay4 (F := Ideal) x0 (ix2 (slot p k) n) * x7 (ix3 0 n c)) = A.delta b (row p) k c := by
    intro c
    rw [gathered x0 _ _ (h.nbr p k) fun n => x6 (ix3 0 n c), gathered x0 _ _ (h.nbr p k) fun n => x7 (ix3 0 n c),
      h.pts, h.hi, h.lo, (hA.pt b _ c).sub_self, add_zero]
    rfl
  have e6 : ∀ hlt, (⟨6 + c.val - 3 - 3, hlt⟩ : Fin 3) = c := fun _ => Fin.ext (show 6 + c.val - 3 - 3 = c.val by omega)
  refine ⟨?_, ?_, ?_⟩
  · unfold k1_pay7
    pointwise
    simp only [hp]
    exact key c
  · unfold k1_pay7
    pointwise
    simp only [hp]
    exact key c
  · unfold k1_pay7
    pointwise
    rw [dif_neg (by omega), dif_neg (by omega)]
    simp only [hp, e6, key]
    exact (hA.delta b _ _ _).sub_self

/-- The position encoding. -/
theorem BlocksB.pos (p : Fin 128) (k : Fin 16) (f : Fin 512) :
    k1_pay8 (k1_pay7 x0 x6 x7 x3) x8 x9 (ix2 (slot p k) f) = A.pos b (row p) k f := by
  unfold k1_pay8
  pointwise
  rw [Args.pos]
  refine Finset.sum_congr rfl fun e _ => ?_
  rw [h.fcd2, Args.hid, sum_nine]
  congr 2
  refine Finset.sum_congr rfl fun c _ => ?_
  obtain ⟨o1, o2, o3⟩ := h.offsets hA p k c
  rw [o1, o2, o3, h.fcd1_hi, h.fcd1_lo, (hA.fcd1 e c).sub_self, mul_zero, zero_mul, add_zero, add_zero]

/-- The logits. -/
theorem BlocksB.logit (p : Fin 128) (k : Fin 16) (f : Fin 512) :
    Ideal.div (∑ x, max (∑ y, (k1_pay8 (k1_pay7 x0 x6 x7 x3) x8 x9 (ix2 (slot p k) y) - k1_pay5 x0 x4 (ix2 (slot p k) y)
      + x1 (ix3 0 p y)) * x10 (ix2 y x)) 0 * x11 (ix2 x f)) scale = A.logit b (row p) f k := by
  rw [Args.logit]
  refine congrArg (Ideal.div · scale) (Finset.sum_congr rfl fun e _ => ?_)
  rw [h.fcg2, Args.gam]
  refine congrArg (max · 0 * A.fcg2 f e) (Finset.sum_congr rfl fun y _ => ?_)
  rw [h.fcg1, h.pos hA, h.keys, h.q, Args.gin]
  refine congrArg (· * A.fcg1 e y) ?_
  rw [sub_eq_add_neg, sub_eq_add_neg]
  ac_rfl

/-- The exponentials. -/
theorem BlocksB.exps (p : Fin 128) (k : Fin 16) (f : Fin 512) :
    k1_pay9 (k1_pay5 x0 x4) (k1_pay7 x0 x6 x7 x3) x8 x9 x1 x10 x11 (ix3 p k f) = expo (A.logit b (row p) f) k := by
  unfold k1_pay9
  have hl := h.logit hA p
  generalize k1_pay8 (k1_pay7 x0 x6 x7 x3) x8 x9 = pos at hl ⊢
  generalize k1_pay5 x0 x4 = kk at hl ⊢
  pointwise
  rw [word_bot]
  exact congrArg Ideal.exp (congrArg₂ (fun u w => u - w) (hl k f)
    (congrArg (fun g => Finset.univ.fold max ⊥ g) (funext fun i => hl i f)))

/-- The attention. -/
theorem BlocksB.weight (p : Fin 128) (k : Fin 16) (f : Fin 512) :
    k1_pay1 (k1_pay9 (k1_pay5 x0 x4) (k1_pay7 x0 x6 x7 x3) x8 x9 x1 x10 x11)
      (k1_pay10 (k1_pay5 x0 x4) (k1_pay7 x0 x6 x7 x3) x8 x9 x1 x10 x11) (k1_pay11 (F := Ideal)) (ix3 p k f)
      = A.attn b (row p) f k := by
  unfold k1_pay10
  have he := h.exps hA p
  generalize k1_pay9 (k1_pay5 x0 x4) (k1_pay7 x0 x6 x7 x3) x8 x9 x1 x10 x11 = ex at he ⊢
  unfold_payloads
  pointwise
  simp only [he]
  exact softmax_mul _ (hA.logit b _ f) k

/-- The first output block holds the attention. -/
theorem BlocksB.attn (p : Fin 128) (k : Fin 16) (f : Fin 512) :
    out1_13 x0 x1 x2 x3 x4 x5 x6 x7 x8 x9 x10 x11 x12 (ix4 0 p k f) = A.attn b (row p) f k := by
  rw [← h.weight hA p k f]
  unfold_out out1_13
  rw [View.canon_unit_zero zero4]
  unfold k1_pay2
  have e0 : View.ld x0 r1_0 = x0 := View.ld_unit_zero (Val := Elt Ideal) zero3 _ _
  have e1 : View.ld x1 r1_6 = x1 := View.ld_unit_zero (Val := Elt Ideal) zero3 _ _
  have e3 : View.ld x3 r1_3 = x3 := View.ld_unit_zero (Val := Elt Ideal) zero3 _ _
  have e4 : View.ld x4 r1_1 = x4 := View.ld_unit_zero (Val := Elt Ideal) zero3 _ _
  have e6 : View.ld x6 r1_2 = x6 := View.ld_unit_zero (Val := Elt Ideal) zero3 _ _
  have e7 : View.ld x7 r1_2 = x7 := View.ld_unit_zero (Val := Elt Ideal) zero3 _ _
  have e8 : View.ld x8 r1_4 = x8 := View.ld_unit_zero (Val := Elt Ideal) zero2 _ _
  have e9 : View.ld x9 r1_5 = x9 := View.ld_unit_zero (Val := Elt Ideal) zero2 _ _
  have e10 : View.ld x10 r1_5 = x10 := View.ld_unit_zero (Val := Elt Ideal) zero2 _ _
  have e11 : View.ld x11 r1_5 = x11 := View.ld_unit_zero (Val := Elt Ideal) zero2 _ _
  rw [e0, e1, e3, e4, e6, e7, e8, e9, e10, e11]
  generalize k1_pay1 (F := Ideal) _ _ _ = w
  pointwise

/-- The second output block holds the points' output features. -/
theorem BlocksB.out (p : Fin 128) (o : Fin 256) :
    out1_14 x0 x1 x2 x3 x4 x5 x6 x7 x8 x9 x10 x11 x12 (ix3 0 p o) = A.out b (row p) o := by
  have hw := h.weight hA p
  have hv := h.values p
  have hp := h.pos hA p
  unfold_out out1_14
  rw [View.canon_unit_zero zero3]
  unfold k1_pay3
  have e0 : View.ld x0 r1_0 = x0 := View.ld_unit_zero (Val := Elt Ideal) zero3 _ _
  have e1 : View.ld x1 r1_6 = x1 := View.ld_unit_zero (Val := Elt Ideal) zero3 _ _
  have e3 : View.ld x3 r1_3 = x3 := View.ld_unit_zero (Val := Elt Ideal) zero3 _ _
  have e4 : View.ld x4 r1_1 = x4 := View.ld_unit_zero (Val := Elt Ideal) zero3 _ _
  have e5 : View.ld x5 r1_1 = x5 := View.ld_unit_zero (Val := Elt Ideal) zero3 _ _
  have e6 : View.ld x6 r1_2 = x6 := View.ld_unit_zero (Val := Elt Ideal) zero3 _ _
  have e7 : View.ld x7 r1_2 = x7 := View.ld_unit_zero (Val := Elt Ideal) zero3 _ _
  have e8 : View.ld x8 r1_4 = x8 := View.ld_unit_zero (Val := Elt Ideal) zero2 _ _
  have e9 : View.ld x9 r1_5 = x9 := View.ld_unit_zero (Val := Elt Ideal) zero2 _ _
  have e10 : View.ld x10 r1_5 = x10 := View.ld_unit_zero (Val := Elt Ideal) zero2 _ _
  have e11 : View.ld x11 r1_5 = x11 := View.ld_unit_zero (Val := Elt Ideal) zero2 _ _
  rw [e0, e1, e3, e4, e5, e6, e7, e8, e9, e10, e11]
  generalize k1_pay1 (F := Ideal) _ _ _ = w at hw ⊢
  generalize k1_pay6 (F := Ideal) _ _ = vv at hv ⊢
  generalize k1_pay8 (F := Ideal) _ _ _ = pos at hp ⊢
  pointwise
  rw [Args.out, h.ft]
  congr 1
  refine Finset.sum_congr rfl fun f _ => ?_
  rw [h.fc2, Args.res]
  congr 1
  refine Finset.sum_congr rfl fun k _ => ?_
  rw [hw, ← hv, ← hp]
  rfl

end

end Cert.Knn

end
-- ==== Proof.LaunchB.lean ====
/-
  The second launch: point `t` of its grid works on 128 points of one cloud, so its outputs hold, point by point,
  the attention and the output features. Then the kernel's three results.
-/
module

public import proofs.«01_k».proof.Proof.LaunchA
public import proofs.«01_k».proof.Proof.StageB

@[expose] public section

set_option maxRecDepth 16384

noncomputable section

namespace Cert.Knn.Ker

open Idealize.ShloMosaic Idealize.ShloMosaic.TcCoe Cert.KernelIdeal Cert.KernelIdeal.Gen

variable (m : (ℓ : Loc nD τ sig) → Buf (Elt Ideal) ℓ) (ρ : Dev nD → PrngReg) (c : Dev nD)
  (V : (c : Dev nD) → (b : Ref sig .tc) → Buf (Elt Ideal) ((c : Thread nD τ).loc b))

theorem point_lt (t : Fin cfg1.N) : t.val < 16 := N_1 ▸ t.isLt

/-- The cloud that a point of the second launch's grid works on. -/
def cloudB (t : Fin cfg1.N) : Fin 4 := ⟨t.val / 4, by have := point_lt t; omega⟩

theorem cloudB_val (t : Fin cfg1.N) : (cloudB t).val = t.val / 4 := rfl

/-- The points of the cloud that it works on: the `t % 4`-th 128. -/
def rowB (t : Fin cfg1.N) (p : Fin 128) : Fin 512 := ⟨t.val % 4 * 128 + p.val, by have := p.isLt; omega⟩

theorem rowB_val (t : Fin cfg1.N) (p : Fin 128) : (rowB t p).val = t.val % 4 * 128 + p.val := rfl

/-- The rows of the neighbours' column that it works on. -/
def slotB (t : Fin cfg1.N) (s : Fin 2048) : Fin 8192 := ⟨t.val % 4 * 2048 + s.val, by have := s.isLt; omega⟩

theorem slotB_val (t : Fin cfg1.N) (s : Fin 2048) : (slotB t s).val = t.val % 4 * 2048 + s.val := rfl

/-! ## Where the windows stand -/

theorem window1_0 : ∀ t : Fin grid1.N, win1_0.index t = ![t.val / 4, t.val % 4, 0] := by decide +kernel
theorem window1_1 : ∀ t : Fin grid1.N, win1_1.index t = ![t.val / 4, t.val % 4, 0] := by decide +kernel
theorem window1_2 : ∀ t : Fin grid1.N, win1_2.index t = ![t.val / 4, t.val % 4, 0] := by decide +kernel
theorem window1_3 : ∀ t : Fin grid1.N, win1_3.index t = ![t.val / 4, t.val % 4, 0] := by decide +kernel
theorem window1_14 : ∀ t : Fin grid1.N, win1_14.index t = ![t.val / 4, t.val % 4, 0] := by decide +kernel
theorem window1_4 : ∀ t : Fin grid1.N, win1_4.index t = ![t.val / 4, 0, 0] := by decide +kernel
theorem window1_5 : ∀ t : Fin grid1.N, win1_5.index t = ![t.val / 4, 0, 0] := by decide +kernel
theorem window1_6 : ∀ t : Fin grid1.N, win1_6.index t = ![t.val / 4, 0, 0] := by decide +kernel
theorem window1_7 : ∀ t : Fin grid1.N, win1_7.index t = ![t.val / 4, 0, 0] := by decide +kernel
theorem window1_8 : ∀ t : Fin grid1.N, win1_8.index t = ![0, 0] := by decide +kernel
theorem window1_9 : ∀ t : Fin grid1.N, win1_9.index t = ![0, 0] := by decide +kernel
theorem window1_10 : ∀ t : Fin grid1.N, win1_10.index t = ![0, 0] := by decide +kernel
theorem window1_11 : ∀ t : Fin grid1.N, win1_11.index t = ![0, 0] := by decide +kernel
theorem window1_12 : ∀ t : Fin grid1.N, win1_12.index t = ![0, 0] := by decide +kernel
theorem window1_13 : ∀ t : Fin grid1.N, win1_13.index t = ![t.val / 4, t.val % 4, 0, 0] := by decide +kernel

/-! ## The input blocks -/

theorem block1_0 (t : Fin cfg1.N) (s : Fin 2048) :
    (iblk1 V c 0 t : Vec Ideal S1x2048x1 .i32) (ix3 0 s 0) = (V c main_v34 : Vec Ideal S4x8192x1 .i32) (ix3 (cloudB t) (slotB t s) 0) := by
  unfold iblk1
  refine congrArg (V c main_v34) ?_
  blk_ext [window1_0 t, cloudB_val, rowB_val, slotB_val]

theorem block1_1 (t : Fin cfg1.N) (p : Fin 128) (f : Fin 512) :
    (iblk1 V c 1 t : Vec Ideal S1x128x512 .f32) (ix3 0 p f) = (V c main_v33_1 : Vec Ideal S4x512x512 .f32) (ix3 (cloudB t) (rowB t p) f) := by
  unfold iblk1
  refine congrArg (V c main_v33_1) ?_
  blk_ext [window1_1 t, cloudB_val, rowB_val, slotB_val]

theorem block1_2 (t : Fin cfg1.N) (p : Fin 128) (f : Fin 256) :
    (iblk1 V c 2 t : Vec Ideal S1x128x256 .f32) (ix3 0 p f) = (V c main_v2 : Vec Ideal S4x512x256 .f32) (ix3 (cloudB t) (rowB t p) f) := by
  unfold iblk1
  refine congrArg (V c main_v2) ?_
  blk_ext [window1_2 t, cloudB_val, rowB_val, slotB_val]

theorem block1_3 (t : Fin cfg1.N) (p : Fin 128) (f : Fin 3) :
    (iblk1 V c 3 t : Vec Ideal S1x128x3 .f32) (ix3 0 p f) = (V c main_v0 : Vec Ideal S4x512x3 .f32) (ix3 (cloudB t) (rowB t p) f) := by
  unfold iblk1
  refine congrArg (V c main_v0) ?_
  blk_ext [window1_3 t, cloudB_val, rowB_val, slotB_val]

theorem block1_4 (t : Fin cfg1.N) (n : Fin 512) (f : Fin 512) :
    (iblk1 V c 4 t : Vec Ideal S1x512x512 .bf16) (ix3 0 n f) = (V c main_v33_2 : Vec Ideal S4x512x512 .bf16) (ix3 (cloudB t) n f) := by
  unfold iblk1
  refine congrArg (V c main_v33_2) ?_
  blk_ext [window1_4 t, cloudB_val, rowB_val, slotB_val]

theorem block1_5 (t : Fin cfg1.N) (n : Fin 512) (f : Fin 512) :
    (iblk1 V c 5 t : Vec Ideal S1x512x512 .bf16) (ix3 0 n f) = (V c main_v33_3 : Vec Ideal S4x512x512 .bf16) (ix3 (cloudB t) n f) := by
  unfold iblk1
  refine congrArg (V c main_v33_3) ?_
  blk_ext [window1_5 t, cloudB_val, rowB_val, slotB_val]

theorem block1_6 (t : Fin cfg1.N) (n : Fin 512) (f : Fin 3) :
    (iblk1 V c 6 t : Vec Ideal S1x512x3 .bf16) (ix3 0 n f) = (V c main_v3 : Vec Ideal S4x512x3 .bf16) (ix3 (cloudB t) n f) := by
  unfold iblk1
  refine congrArg (V c main_v3) ?_
  blk_ext [window1_6 t, cloudB_val, rowB_val, slotB_val]

theorem block1_7 (t : Fin cfg1.N) (n : Fin 512) (f : Fin 3) :
    (iblk1 V c 7 t : Vec Ideal S1x512x3 .bf16) (ix3 0 n f) = (V c main_v6 : Vec Ideal S4x512x3 .bf16) (ix3 (cloudB t) n f) := by
  unfold iblk1
  refine congrArg (V c main_v6) ?_
  blk_ext [window1_7 t, cloudB_val, rowB_val, slotB_val]

theorem block1_8 (t : Fin cfg1.N) (i : Fin 9) (j : Fin 512) :
    (iblk1 V c 8 t : Vec Ideal S9x512 .bf16) (ix2 i j) = (V c main_v13 : Vec Ideal S9x512 .bf16) (ix2 i j) := by
  unfold iblk1
  refine congrArg (V c main_v13) ?_
  blk_ext [window1_8 t, cloudB_val, rowB_val, slotB_val]

theorem block1_9 (t : Fin cfg1.N) (i : Fin 512) (j : Fin 512) :
    (iblk1 V c 9 t : Vec Ideal S512x512 .bf16) (ix2 i j) = (V c main_v36 : Vec Ideal S512x512 .bf16) (ix2 i j) := by
  unfold iblk1
  refine congrArg (V c main_v36) ?_
  blk_ext [window1_9 t, cloudB_val, rowB_val, slotB_val]

theorem block1_10 (t : Fin cfg1.N) (i : Fin 512) (j : Fin 512) :
    (iblk1 V c 10 t : Vec Ideal S512x512 .bf16) (ix2 i j) = (V c main_v38 : Vec Ideal S512x512 .bf16) (ix2 i j) := by
  unfold iblk1
  refine congrArg (V c main_v38) ?_
  blk_ext [window1_10 t, cloudB_val, rowB_val, slotB_val]

theorem block1_11 (t : Fin cfg1.N) (i : Fin 512) (j : Fin 512) :
    (iblk1 V c 11 t : Vec Ideal S512x512 .bf16) (ix2 i j) = (V c main_v40 : Vec Ideal S512x512 .bf16) (ix2 i j) := by
  unfold iblk1
  refine congrArg (V c main_v40) ?_
  blk_ext [window1_11 t, cloudB_val, rowB_val, slotB_val]

theorem block1_12 (t : Fin cfg1.N) (i : Fin 512) (j : Fin 256) :
    (iblk1 V c 12 t : Vec Ideal S512x256 .bf16) (ix2 i j) = (V c main_v42 : Vec Ideal S512x256 .bf16) (ix2 i j) := by
  unfold iblk1
  refine congrArg (V c main_v42) ?_
  blk_ext [window1_12 t, cloudB_val, rowB_val, slotB_val]

/-! ## What the second launch finds of the first -/

theorem found_nbr (hA : (argsOf m c).Regular) (b : Fin 4) (n : Fin 512) (k : Fin 16) :
    (W2 m ρ c main_v33_0 : Vec Ideal S4x512x16 .i32) (ix3 b n k) = BitVec.ofNat 32 ((argsOf m c).nbr b n k).val :=
  congrFun ((W2_arr m ρ c 13).trans (after_nbr m ρ c hA)) (ix3 b n k)

theorem found_q (b : Fin 4) (n f : Fin 512) : (V3 m ρ c main_v33_1 : Vec Ideal S4x512x512 .f32) (ix3 b n f) = (argsOf m c).q b n f :=
  congrFun ((W3_of m ρ c main_v33_1 (by decide)).trans ((W2_arr m ρ c 14).trans (after_q m ρ c))) (ix3 b n f)

theorem found_k (b : Fin 4) (n f : Fin 512) : (V3 m ρ c main_v33_2 : Vec Ideal S4x512x512 .bf16) (ix3 b n f) = (argsOf m c).k b n f :=
  congrFun ((W3_of m ρ c main_v33_2 (by decide)).trans ((W2_arr m ρ c 15).trans (after_k m ρ c))) (ix3 b n f)

theorem found_v (b : Fin 4) (n f : Fin 512) : (V3 m ρ c main_v33_3 : Vec Ideal S4x512x512 .bf16) (ix3 b n f) = (argsOf m c).v b n f :=
  congrFun ((W3_of m ρ c main_v33_3 (by decide)).trans ((W2_arr m ρ c 16).trans (after_v m ρ c))) (ix3 b n f)

/-- At every point the input blocks hold its cloud, its points and the weights. -/
theorem blocksB (hA : (argsOf m c).Regular) (t : Fin cfg1.N) : BlocksB (argsOf m c) (cloudB t) (rowB t) (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t) (iblk1 (V3 m ρ) c 6 t) (iblk1 (V3 m ρ) c 7 t) (iblk1 (V3 m ρ) c 8 t) (iblk1 (V3 m ρ) c 9 t) (iblk1 (V3 m ρ) c 10 t) (iblk1 (V3 m ρ) c 11 t) (iblk1 (V3 m ρ) c 12 t) where
  nbr p k := (block1_0 c (V3 m ρ) t (slot p k)).trans ((v34_at m ρ c _ _ (rowB t p) k (by
    show t.val % 4 * 2048 + (p.val * 16 + k.val) = (t.val % 4 * 128 + p.val) * 16 + k.val
    omega)).trans (found_nbr m ρ c hA _ _ _))
  q p f := (block1_1 c (V3 m ρ) t p f).trans (found_q m ρ c _ _ _)
  ft p f := (block1_2 c (V3 m ρ) t p f).trans ((congrFun (kept m ρ c main_v2 (by decide) (by decide)) _).trans (v2_at m ρ c _ _ _))
  pts p f := (block1_3 c (V3 m ρ) t p f).trans ((congrFun (kept m ρ c main_v0 (by decide) (by decide)) _).trans (v0_at m ρ c _ _ _))
  k n f := (block1_4 c (V3 m ρ) t n f).trans (found_k m ρ c _ _ _)
  v n f := (block1_5 c (V3 m ρ) t n f).trans (found_v m ρ c _ _ _)
  hi n f := (block1_6 c (V3 m ρ) t n f).trans ((congrFun (kept m ρ c main_v3 (by decide) (by decide)) _).trans (v3_at m ρ c _ _ _))
  lo n f := (block1_7 c (V3 m ρ) t n f).trans ((congrFun (kept m ρ c main_v6 (by decide) (by decide)) _).trans (v6_at m ρ c _ _ _))
  fcd1_hi k f := (block1_8 c (V3 m ρ) t _ f).trans ((congrFun (kept m ρ c main_v13 (by decide) (by decide)) _).trans (v13_hi m ρ c k f))
  fcd1_lo k f := (block1_8 c (V3 m ρ) t _ f).trans ((congrFun (kept m ρ c main_v13 (by decide) (by decide)) _).trans (v13_lo m ρ c k f))
  fcd1_re k f := (block1_8 c (V3 m ρ) t _ f).trans ((congrFun (kept m ρ c main_v13 (by decide) (by decide)) _).trans (v13_re m ρ c k f))
  fcd2 i j := (block1_9 c (V3 m ρ) t i j).trans (v36_at m ρ c i j)
  fcg1 i j := (block1_10 c (V3 m ρ) t i j).trans (v38_at m ρ c i j)
  fcg2 i j := (block1_11 c (V3 m ρ) t i j).trans (v40_at m ρ c i j)
  fc2 i j := (block1_12 c (V3 m ρ) t i j).trans (v42_at m ρ c i j)

/-! ## The output arrays -/

/-- Output 13 is `G` if every point leaves its part of `G`. -/
theorem array1_13 (G : Vec Ideal S4x512x16x512 .f32) (h : ∀ (t : Fin cfg1.N) (p : Fin 128) (k : Fin 16) (f : Fin 512),
    ((dat1 V c).after 13 t : Vec Ideal S1x128x16x512 .f32) (ix4 0 p k f) = G (ix4 (cloudB t) (rowB t p) k f)) : (dat1 V c).arrAt 13 cfg1.N = G := by
  refine (dat1 V c).arrAt_eq_of_covers 13 G (by decide +kernel) fun t hf y => ?_
  blk_simp
  idx_vars y
  obtain rfl : y0 = 0 := Subsingleton.elim _ _
  have e : (win1_13.blk t).view.emb (ix4 0 y1 y2 y3) = (ix4 (cloudB t) (rowB t y1) y2 y3 : S4x512x16x512.Idx) := by
    blk_ext [window1_13 t, cloudB_val, rowB_val]
  exact (h t y1 y2 y3).trans (congrArg G e.symm)

/-- Output 14 is `G` if every point leaves its part of `G`. -/
theorem array1_14 (G : Vec Ideal S4x512x256 .f32) (h : ∀ (t : Fin cfg1.N) (p : Fin 128) (o : Fin 256),
    ((dat1 V c).after 14 t : Vec Ideal S1x128x256 .f32) (ix3 0 p o) = G (ix3 (cloudB t) (rowB t p) o)) : (dat1 V c).arrAt 14 cfg1.N = G := by
  refine (dat1 V c).arrAt_eq_of_covers 14 G (by decide +kernel) fun t hf y => ?_
  blk_simp
  idx_vars y
  obtain rfl : y0 = 0 := Subsingleton.elim _ _
  have e : (win1_14.blk t).view.emb (ix3 0 y1 y2) = (ix3 (cloudB t) (rowB t y1) y2 : S4x512x256.Idx) := by
    blk_ext [window1_14 t, cloudB_val, rowB_val]
  exact (h t y1 y2).trans (congrArg G e.symm)

variable (hA : (argsOf m c).Regular)
include hA

/-- The attention. -/
theorem after_attn : (dat1 (V3 m ρ) c).arrAt 13 cfg1.N = (fun i => (argsOf m c).attn (i 0) (i 1) (i 3) (i 2) : Vec Ideal S4x512x16x512 .f32) := by
  refine array1_13 c (V3 m ρ) _ fun t p k f => ?_
  rw [after1_13]
  exact (blocksB m ρ c hA t).attn hA p k f

/-- The points' output features. -/
theorem after_out : (dat1 (V3 m ρ) c).arrAt 14 cfg1.N = (fun i => (argsOf m c).out (i 0) (i 1) (i 2) : Vec Ideal S4x512x256 .f32) := by
  refine array1_14 c (V3 m ρ) _ fun t p o => ?_
  rw [after1_14]
  exact (blocksB m ρ c hA t).out hA p o

/-! ## The results -/

/-- The second result is the attention. -/
theorem result_attn (b : Fin 4) (n : Fin 512) (k : Fin 16) (f : Fin 512) :
    (W5 m ρ c main_v43_0 : Vec Ideal S4x512x16x512 .f32) (ix4 b n k f) = (argsOf m c).attn b n f k :=
  congrFun ((W5_of m ρ c main_v43_0 (by decide)).trans ((W4_arr m ρ c 13).trans (after_attn m ρ c hA))) (ix4 b n k f)

/-- The points' part of the first result. -/
theorem part_out (b : Fin 4) (n : Fin 512) (o : Fin 256) :
    (W4 m ρ c main_v43_1 : Vec Ideal S4x512x256 .f32) (ix3 b n o) = (argsOf m c).out b n o :=
  congrFun ((W4_arr m ρ c 14).trans (after_out m ρ c hA)) (ix3 b n o)

omit hA in
/-- The class point's part of the first result. -/
theorem part_cout (b : Fin 4) (o : Fin 256) :
    (W4 m ρ c main_v33_4 : Vec Ideal S4x1x256 .f32) (ix3 b 0 o) = (argsOf m c).cout b o :=
  congrFun ((W4_of m ρ c main_v33_4 (by decide)).trans ((W3_of m ρ c main_v33_4 (by decide)).trans
    ((W2_arr m ρ c 17).trans (after_cout m ρ c)))) (ix3 b 0 o)

omit hA in
/-- The third result is the class point's attention. -/
theorem result_cattn (b : Fin 4) (n : Fin 512) :
    (W5 m ρ c main_v33_5 : Vec Ideal S4x1x512 .f32) (ix3 b 0 n) = (argsOf m c).cattn b n :=
  congrFun ((W5_of m ρ c main_v33_5 (by decide)).trans ((W4_of m ρ c main_v33_5 (by decide)).trans
    ((W3_of m ρ c main_v33_5 (by decide)).trans ((W2_arr m ρ c 18).trans (after_cattn m ρ c))))) (ix3 b 0 n)

/-- The first result is the whole cloud's output features. -/
theorem result_outs (b : Fin 4) (r : Fin 513) (o : Fin 256) :
    (W5 m ρ c main_v44 : Vec Ideal S4x513x256 .f32) (ix3 b r o) = (argsOf m c).outs b r o := by
  show (StableHlo.after hostOps2 (W4 m ρ c) main_v44 : Vec Ideal S4x513x256 .f32) (ix3 b r o) = _
  after_reads_at
  unfold Args.outs
  by_cases h : r.val < 1
  · rw [dif_pos h, dif_pos h, show (⟨r.val, h⟩ : Fin 1) = 0 from Subsingleton.elim _ _]
    exact part_cout m ρ c b o
  · rw [dif_neg h, dif_neg h]
    exact part_out m ρ c hA b _ o

end Cert.Knn.Ker

end
-- ==== Proof.KernelRun.lean ====
/-
  The kernel's run: every buffer that the host reaches ends at the contents folded through the two launches.
-/
module

public import proofs.«01_k».proof.Proof.Gen.KernelIdeal.Frame
public import proofs.«01_k».proof.Proof.LaunchB

@[expose] public section

set_option maxRecDepth 16384

noncomputable section

namespace Cert.Knn.Ker

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every execution ends, with each buffer at the contents that the launches and host operations leave. -/
theorem run : θ_run defs (onTc (τ := τ) (main (F := Ideal))) ⟨m, fun _ => 0, ρ⟩ (fun r => ∀ c : Dev nD, ∀ b ∈ Pipeline.ucRefs τ sig,
    r.2.mem (((c : Thread nD τ)).1, b) = W5 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun _ h _ => h)

end Cert.Knn.Ker

end
-- ==== Proof.Pre.lean ====
/-
  What the precondition says of the arguments: nine arrays hold real numbers, and eight biases are zero.
-/
module

public import proofs.«01_k».proof.Proof.HostReads
public import proofs.«01_k».proof.Proof.Finite
public import proofs.«01_k».proof.Defs
public import Idealize.ShloMosaic.Lib.ReduceAll

@[expose] public section

set_option maxRecDepth 16384

noncomputable section

namespace Cert.Knn.Pre

open Idealize.ShloMosaic Idealize.ShloMosaic.TcCoe

/-- The shape of a single value. -/
abbrev S1 : Shape := ⟨0, ![]⟩

instance : Subsingleton S1.Idx := ⟨fun a b => funext fun k => k.elim0⟩

/-- If every magnitude of an array is below +∞, the array holds real numbers. -/
theorem real_of_all {s : Shape} {axes : List (Fin s.rank)} (x : FVec Ideal s .f32) (hb : S1.BroadcastsInDim s (![] : Fin 0 → Fin s.rank))
    (hr : s.ReducesTo axes S1) (hu : 0 < S1.numel) (j : S1.Idx)
    (e : Host.reduce IntOp.andi (cmpf .olt (Host.absf x) (broadcastInDim s ![] hb (constant (F := Ideal) S1 .f32 0x7F800000#32)))
      (constantI S1 1 1#1) hr hu j = 1#1) (i : s.Idx) : IsReal (x i) := by
  have h := Host.reduce_andi_all _ _ hr hu j e i
  have h' : BitVec.ofBool (decide (max (x i) (-(x i)) < Ideal.ofBits .f32 0x7F800000#32)) = 1#1 := h
  rw [word_top] at h'
  refine isReal_of_abs ?_
  by_contra hn
  rw [decide_eq_false hn] at h'
  exact absurd h' (by decide)

/-- If every element of an array equals the value of the zero pattern, the array is zero. -/
theorem zero_of_all {s : Shape} {axes : List (Fin s.rank)} (x : FVec Ideal s .f32) (hb : S1.BroadcastsInDim s (![] : Fin 0 → Fin s.rank))
    (hr : s.ReducesTo axes S1) (hu : 0 < S1.numel) (j : S1.Idx)
    (e : Host.reduce IntOp.andi (cmpf .oeq x (broadcastInDim s ![] hb (constant (F := Ideal) S1 .f32 0x00000000#32)))
      (constantI S1 1 1#1) hr hu j = 1#1) (i : s.Idx) : x i = (0 : EReal) := by
  have h := Host.reduce_andi_all _ _ hr hu j e i
  have h' : BitVec.ofBool (decide (x i = Ideal.ofBits .f32 0x00000000#32)) = 1#1 := h
  rw [show Ideal.ofBits .f32 0x00000000#32 = 0 by simp [Ideal.ofBits, Ideal.ieee]] at h'
  by_contra hn
  rw [decide_eq_false hn] at h'
  exact absurd h' (by decide)

variable {m : (ℓ : Loc Cert.KernelIdeal.nD Cert.KernelIdeal.τ Cert.KernelIdeal.sig) → Buf (Elt Ideal) ℓ}

/-- The eight biases in the kernel's memory are zero. -/
structure Unbiased (m : (ℓ : Loc Cert.KernelIdeal.nD Cert.KernelIdeal.τ Cert.KernelIdeal.sig) → Buf (Elt Ideal) ℓ)
    (c : Dev Cert.KernelIdeal.nD) : Prop where
  fc1 : IsZero (n := 512) (m ((c.tc : Thread Cert.KernelIdeal.nD Cert.KernelIdeal.τ).loc Cert.KernelIdeal.main_arg3))
  fc2 : IsZero (n := 256) (m ((c.tc : Thread Cert.KernelIdeal.nD Cert.KernelIdeal.τ).loc Cert.KernelIdeal.main_arg5))
  fcd1 : IsZero (n := 512) (m ((c.tc : Thread Cert.KernelIdeal.nD Cert.KernelIdeal.τ).loc Cert.KernelIdeal.main_arg7))
  fcd2 : IsZero (n := 512) (m ((c.tc : Thread Cert.KernelIdeal.nD Cert.KernelIdeal.τ).loc Cert.KernelIdeal.main_arg9))
  fcg1 : IsZero (n := 512) (m ((c.tc : Thread Cert.KernelIdeal.nD Cert.KernelIdeal.τ).loc Cert.KernelIdeal.main_arg11))
  fcg2 : IsZero (n := 512) (m ((c.tc : Thread Cert.KernelIdeal.nD Cert.KernelIdeal.τ).loc Cert.KernelIdeal.main_arg13))
  fc1c : IsZero (n := 512) (m ((c.tc : Thread Cert.KernelIdeal.nD Cert.KernelIdeal.τ).loc Cert.KernelIdeal.main_arg18))
  fc2c : IsZero (n := 256) (m ((c.tc : Thread Cert.KernelIdeal.nD Cert.KernelIdeal.τ).loc Cert.KernelIdeal.main_arg20))

variable [hp : Cert.Pre_regular.Facts]

/-- The precondition gives real arguments and zero biases. -/
theorem regular_unbiased (hpre : Cert.Pre_KernelIdeal m) (c : Dev Cert.KernelIdeal.nD) :
    (Ker.argsOf m c).Regular ∧ Unbiased m c := by
  have h0 := congrFun (hpre c) ix0
  dsimp only [Cert.Pre_regular.fn, Cert.Pre_regular.fn_part1, Cert.Pre_regular.fn_part2, Cert.Pre_regular.fn_part3,
    Cert.Pre_regular.fn_part4, Cert.Pre_regular.fn_part5] at h0
  obtain ⟨h1, -⟩ := IntOp.andi_eq_one.1 h0
  obtain ⟨hf, hz⟩ := IntOp.andi_eq_one.1 h1
  obtain ⟨hf, fwk⟩ := IntOp.andi_eq_one.1 hf
  obtain ⟨hf, fwq⟩ := IntOp.andi_eq_one.1 hf
  obtain ⟨hf, fg2⟩ := IntOp.andi_eq_one.1 hf
  obtain ⟨hf, fg1⟩ := IntOp.andi_eq_one.1 hf
  obtain ⟨hf, fd2⟩ := IntOp.andi_eq_one.1 hf
  obtain ⟨hf, fd1⟩ := IntOp.andi_eq_one.1 hf
  obtain ⟨hf, ffc1⟩ := IntOp.andi_eq_one.1 hf
  obtain ⟨fx, ff⟩ := IntOp.andi_eq_one.1 hf
  obtain ⟨hz, z20⟩ := IntOp.andi_eq_one.1 hz
  obtain ⟨hz, z18⟩ := IntOp.andi_eq_one.1 hz
  obtain ⟨hz, z13⟩ := IntOp.andi_eq_one.1 hz
  obtain ⟨hz, z11⟩ := IntOp.andi_eq_one.1 hz
  obtain ⟨hz, z9⟩ := IntOp.andi_eq_one.1 hz
  obtain ⟨hz, z7⟩ := IntOp.andi_eq_one.1 hz
  obtain ⟨z3, z5⟩ := IntOp.andi_eq_one.1 hz
  exact ⟨⟨fun b n k => real_of_all _ _ _ _ _ fx (ix3 b n k), fun b n k => real_of_all _ _ _ _ _ ff (ix3 b n k),
      fun f k => real_of_all _ _ _ _ _ ffc1 (ix2 f k), fun f k => real_of_all _ _ _ _ _ fd1 (ix2 f k),
      fun f k => real_of_all _ _ _ _ _ fd2 (ix2 f k), fun f k => real_of_all _ _ _ _ _ fg1 (ix2 f k),
      fun f k => real_of_all _ _ _ _ _ fg2 (ix2 f k), fun f k => real_of_all _ _ _ _ _ fwq (ix2 f k),
      fun f k => real_of_all _ _ _ _ _ fwk (ix2 f k)⟩,
    ⟨fun j => zero_of_all _ _ _ _ _ z3 (ix1 j), fun j => zero_of_all _ _ _ _ _ z5 (ix1 j),
      fun j => zero_of_all _ _ _ _ _ z7 (ix1 j), fun j => zero_of_all _ _ _ _ _ z9 (ix1 j),
      fun j => zero_of_all _ _ _ _ _ z11 (ix1 j), fun j => zero_of_all _ _ _ _ _ z13 (ix1 j),
      fun j => zero_of_all _ _ _ _ _ z18 (ix1 j), fun j => zero_of_all _ _ _ _ _ z20 (ix1 j)⟩⟩

end Cert.Knn.Pre

end
-- ==== Proof.Gather.lean ====
/-
  Two operations of the reference read at an index: the sort of a row's columns by their distances, and the
  reading of a table's rows at given row numbers, cloud by cloud.
-/
module

public import proofs.«01_k».proof.Proof.Consts
public import proofs.«01_k».proof.Proof.Gen.ReferenceIdeal.Run

@[expose] public section

set_option maxRecDepth 16384

noncomputable section

namespace Cert.Knn

open Idealize.ShloMosaic

/-- The comparator of the reference's sort asks whether the one distance is smaller than the other. -/
theorem comparator_nearer (x y : EReal) (u w : BitVec 32) :
    (Cert.ReferenceIdeal.comparator_f32_i32_d2 (F := Ideal) (x, u) (y, w) == 1#1) = decide (x < y) := by
  have sel : ∀ z : EReal, Scalar.select (FloatOps.cmpf (F := Ideal) (φ := .f32) .une z z)
      (FloatOps.ofBits (F := Ideal) .f32 0x7FC00000#32)
      (Scalar.select (FloatOps.cmpf (F := Ideal) (φ := .f32) .oeq z (FloatOps.ofBits (F := Ideal) .f32 0x00000000#32))
        (FloatOps.ofBits (F := Ideal) .f32 0x00000000#32) z) = z := by
    intro z
    have h0 : FloatOps.ofBits (F := Ideal) .f32 0x00000000#32 = (0 : EReal) := by
      show Ideal.ofBits .f32 0x00000000#32 = 0
      simp [Ideal.ofBits, Ideal.ieee]
    have h1 : FloatOps.cmpf (F := Ideal) (φ := .f32) .une z z = 0#1 := by
      show BitVec.ofBool (decide (z ≠ z)) = 0#1
      simp
    rw [h1, h0]
    by_cases hz : z = 0
    · subst hz
      show (if (0#1 : BitVec 1) = 1 then _ else Scalar.select _ (0 : EReal) 0) = 0
      rw [if_neg (by decide), Scalar.select, ite_self]
    · have h2 : FloatOps.cmpf (F := Ideal) (φ := .f32) .oeq z (0 : EReal) = 0#1 := by
        show BitVec.ofBool (decide (z = 0)) = 0#1
        rw [decide_eq_false hz]; rfl
      rw [h2]
      rfl
  unfold Cert.ReferenceIdeal.comparator_f32_i32_d2
  dsimp only
  rw [sel x, sel y]
  show (BitVec.ofBool (decide (x < y)) == 1#1) = decide (x < y)
  by_cases h : x < y
  · rw [decide_eq_true h]; rfl
  · rw [decide_eq_false h]; rfl

/-- The sorted row numbers: at place `k` of a row stands the number of its `k`-th nearest column. -/
theorem sorted_columns (D : FVec Ideal ⟨3, ![4, 512, 512]⟩ .f32) (J : IVec ⟨3, ![4, 512, 512]⟩ 32) (b : Fin 4) (n k : Fin 512) :
    (Host.sort2 ⟨3, ![4, 512, 512]⟩ 2 (Cert.ReferenceIdeal.comparator_f32_i32_d2 (F := Ideal)) D J).2 (ix3 b n k)
      = J (ix3 b n (sortedFrom (nearer fun j => D (ix3 b n j)) k)) := by
  have along : ∀ j : Fin 512, (ix3 b n k).along (s := ⟨3, ![4, 512, 512]⟩) (2 : Fin 3) j = ix3 b n j := by
    intro j
    funext a
    match a with
    | ⟨0, _⟩ => rfl
    | ⟨1, _⟩ => rfl
    | ⟨2, _⟩ => rfl
  unfold Host.sort2
  rw [dif_pos (show 2 < 3 by decide)]
  show J ((ix3 b n k).along (s := ⟨3, ![4, 512, 512]⟩) (2 : Fin 3) (sortedFrom _ k)) = _
  refine (congrArg J (along _)).trans (congrArg (fun i => J (ix3 b n i)) ?_)
  refine congrArg (fun f => sortedFrom f k) (funext fun u => funext fun w => ?_)
  show (Cert.ReferenceIdeal.comparator_f32_i32_d2 (F := Ideal)
    (D ((ix3 b n k).along (s := ⟨3, ![4, 512, 512]⟩) (2 : Fin 3) u), _)
    (D ((ix3 b n k).along (s := ⟨3, ![4, 512, 512]⟩) (2 : Fin 3) w), _) == 1#1) = _
  rw [comparator_nearer]
  exact congrArg₂ (fun p q => decide (p < q)) (congrArg D (along u)) (congrArg D (along w))

/-- The dimension numbers of reading rows of width `C`, cloud by cloud. -/
abbrev rowsDims (C : Nat) (wf : GatherDims.WF ⟨3, ![4, 512, C]⟩ ⟨4, ![4, 512, 16, 1]⟩ ⟨4, ![4, 512, 16, C]⟩ [3] [1] [0] [1] [0] 3 ![1, 1, C]) :
    GatherDims ⟨3, ![4, 512, C]⟩ ⟨4, ![4, 512, 16, 1]⟩ ⟨4, ![4, 512, 16, C]⟩ where
  offsetDims := [3]
  collapsedSliceDims := [1]
  operandBatchingDims := [0]
  startIndicesBatchingDims := [0]
  startIndexMap := [1]
  indexVectorDim := 3
  sliceSizes := ![1, 1, C]
  wf := wf

/-- Where the row numbers hold `i`, the read rows hold the table's row `i`. -/
theorem gather_rows {C : Nat} (wf : GatherDims.WF ⟨3, ![4, 512, C]⟩ ⟨4, ![4, 512, 16, 1]⟩ ⟨4, ![4, 512, 16, C]⟩ [3] [1] [0] [1] [0] 3 ![1, 1, C])
    (x : (⟨3, ![4, 512, C]⟩ : Shape).Idx → EReal) (J : IVec ⟨4, ![4, 512, 16, 1]⟩ 32) (b : Fin 4) (n : Fin 512) (k : Fin 16) (c : Fin C)
    (i : Fin 512) (hi : J (ix4 b n k 0) = BitVec.ofNat 32 i.val) :
    Host.gather (rowsDims C wf) x J (ix4 b n k c) = x (ix3 b i c) := by
  unfold Host.gather
  refine congrArg x (funext fun a => Fin.ext ?_)
  show (rowsDims C wf).start (ix4 b n k c) J a + (rowsDims C wf).batchCoord (ix4 b n k c) a
    + (rowsDims C wf).offCoord (ix4 b n k c) a = _
  have h012 : a = 0 ∨ a = 1 ∨ a = 2 := by
    match a with
    | ⟨0, _⟩ => exact .inl rfl
    | ⟨1, _⟩ => exact .inr (.inl rfl)
    | ⟨2, _⟩ => exact .inr (.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ (rowsDims C wf).operandBatchingDims from List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (rowsDims C wf).startIndexMap from List.mem_singleton.mpr rfl)]
    have hsi : (rowsDims C wf).siIdx (ix4 b n k c) ⟨List.idxOf (1 : Fin 3) (rowsDims C wf).startIndexMap,
        List.idxOf_lt_length_iff.2 (List.mem_singleton.mpr rfl)⟩ = ix4 b n k 0 := by
      funext a'; refine Fin.ext ?_
      match a' with
      | ⟨0, _⟩ => rfl
      | ⟨1, _⟩ => rfl
      | ⟨2, _⟩ => rfl
      | ⟨3, _⟩ => rfl
    show min (J ((rowsDims C wf).siIdx (ix4 b n k c) ⟨List.idxOf (1 : Fin 3) (rowsDims C wf).startIndexMap,
        List.idxOf_lt_length_iff.2 (List.mem_singleton.mpr rfl)⟩)).toInt.toNat (512 - 1) = i.val
    rw [hsi, hi]
    have := i.isLt
    rw [BitVec.toInt_eq_toNat_of_lt (by rw [BitVec.toNat_ofNat]; omega), BitVec.toNat_ofNat]
    omega
  · rw [GatherDims.batchCoord_eq_zero _ _ _ (fun h => by simp at h)]
    unfold GatherDims.start
    rw [dif_neg (fun h => by simp at h)]
    simp only [Nat.zero_add]
    unfold GatherDims.offCoord
    rw [dif_pos ((GatherDims.mem_sKept _ _).mpr ⟨fun h => by simp at h, fun h => by simp at h⟩)]
    rfl

end Cert.Knn

end
-- ==== Proof.RefStages.lean ====
/-
  The reference, cut into stages: each names a few of its operations, and the composed terms of its three results
  are these stages one after another.
-/
module

public import proofs.«01_k».proof.Proof.Gather

@[expose] public section

set_option maxRecDepth 16384

noncomputable section

namespace Cert.Knn.Ref

open Idealize.ShloMosaic Idealize.ShloMosaic.TcCoe Cert.ReferenceIdeal Cert.ReferenceIdeal.Gen

/-- The points' coordinates. -/
def pts (X : FVec Ideal S4x513x3 .f32) : FVec Ideal S4x512x3 .f32 :=
  extractStridedSlice S4x512x3 ![0, 1, 0] X slices_S4x513x3_S4x512x3_0_1_0

/-- The points' features. -/
def feat (Y : FVec Ideal S4x513x256 .f32) : FVec Ideal S4x512x256 .f32 :=
  extractStridedSlice S4x512x256 ![0, 1, 0] Y slices_S4x513x256_S4x512x256_0_1_0

/-- The class point's features. -/
def clsFeat (Y : FVec Ideal S4x513x256 .f32) : FVec Ideal S4x1x256 .f32 :=
  extractStridedSlice S4x1x256 ![0, 0, 0] Y slices_S4x513x256_S4x1x256_0_0_0

/-- The points' squared lengths. -/
def lengths (P : FVec Ideal S4x512x3 .f32) : FVec Ideal S4x512 .f32 :=
  Host.reduceAdd (mulf P P) (constant S_ .f32 0x00000000#32) reducesTo_S4x512x3_S4x512_d2 h_S_

/-- The squared distances. -/
def dists (P : FVec Ideal S4x512x3 .f32) : FVec Ideal S4x512x512 .f32 :=
  subf (addf (broadcastInDim S4x512x512 ![0, 1, 2] bcast_S4x512x1_S4x512x512_0_1_2
      (broadcastInDim S4x512x1 ![0, 1] bcast_S4x512_S4x512x1_0_1 (lengths P)))
    (broadcastInDim S4x512x512 ![0, 1, 2] bcast_S4x1x512_S4x512x512_0_1_2
      (broadcastInDim S4x1x512 ![0, 2] bcast_S4x512_S4x1x512_0_2 (lengths P))))
    (mulf (broadcastInDim S4x512x512 ![] bcast_S_S4x512x512 (constant S_ .f32 0x40000000#32))
      (Host.dotGeneral dot_S4x512x3_S4x512x3_S4x512x512_2_2_1_1_0_0 none P P))

/-- The sixteen nearest points' numbers. -/
def order (D : FVec Ideal S4x512x512 .f32) : IVec S4x512x16 32 :=
  extractStridedSlice S4x512x16 ![0, 0, 0]
    (Host.sort2 S4x512x512 2 (comparator_f32_i32_d2 (F := Ideal)) D (iotaInDim S4x512x512 32 2)).2 slices_S4x512x512_S4x512x16_0_0_0

/-- The numbers as row numbers: a negative one would count from the end. -/
def rows (J : IVec S4x512x16 32) : IVec S4x512x16x1 32 :=
  broadcastInDim S4x512x16x1 ![0, 1, 2] bcast_S4x512x16_S4x512x16x1_0_1_2
    (select (cmpi .slt J (broadcastInDim S4x512x16 ![] bcast_S_S4x512x16 (constantI S_ 32 0#32)))
      (addi J (broadcastInDim S4x512x16 ![] bcast_S_S4x512x16 (constantI S_ 32 512#32))) J)

/-- The points' hidden features. -/
def hidden (Y : FVec Ideal S4x512x256 .f32) (W : FVec Ideal S512x256 .f32) (c : FVec Ideal S512 .f32) : FVec Ideal S4x512x512 .f32 :=
  addf (Host.dotGeneral dot_S4x512x256_S256x512_S4x512x512_2_0_01_1_n_n none Y
      (transpose S256x512 [1, 0] W transposes_S512x256_S256x512_1_0))
    (broadcastInDim S4x512x512 ![0, 1, 2] bcast_S1x1x512_S4x512x512_0_1_2 (broadcastInDim S1x1x512 ![2] bcast_S512_S1x1x512_2 c))

/-- A projection of the hidden features. -/
def project (H : FVec Ideal S4x512x512 .f32) (W : FVec Ideal S512x512 .f32) : FVec Ideal S4x512x512 .f32 :=
  Host.dotGeneral dot_S4x512x512_S512x512_S4x512x512_2_0_01_1_n_n none H (transpose S512x512 [1, 0] W transposes_S512x512_S512x512_1_0)

/-- The neighbours' rows of a table. -/
def near (T : FVec Ideal S4x512x512 .f32) (R : IVec S4x512x16x1 32) : FVec Ideal S4x512x16x512 .f32 :=
  Host.gather gather_S4x512x512_S4x512x16x1_S4x512x16x512_3_1_0_0_1_3_11512 T R

/-- The offsets from the neighbours. -/
def offsets (P : FVec Ideal S4x512x3 .f32) (R : IVec S4x512x16x1 32) : FVec Ideal S4x512x16x3 .f32 :=
  subf (broadcastInDim S4x512x16x3 ![0, 1, 2, 3] bcast_S4x512x1x3_S4x512x16x3_0_1_2_3
      (broadcastInDim S4x512x1x3 ![0, 1, 3] bcast_S4x512x3_S4x512x1x3_0_1_3 P))
    (Host.gather gather_S4x512x3_S4x512x16x1_S4x512x16x3_3_1_0_0_1_3_113 P R)

/-- A bias given to every row. -/
def bias (c : FVec Ideal S512 .f32) : FVec Ideal S4x512x16x512 .f32 :=
  broadcastInDim S4x512x16x512 ![0, 1, 2, 3] bcast_S1x1x1x512_S4x512x16x512_0_1_2_3
    (broadcastInDim S1x1x1x512 ![3] bcast_S512_S1x1x1x512_3 c)

/-- The positive part. -/
def relu (y : FVec Ideal S4x512x16x512 .f32) : FVec Ideal S4x512x16x512 .f32 :=
  maximumf y (broadcastInDim S4x512x16x512 ![] bcast_S_S4x512x16x512 (constant S_ .f32 0x00000000#32))

/-- The first layer of the position encoding. -/
def layer3 (d : FVec Ideal S4x512x16x3 .f32) (W : FVec Ideal S512x3 .f32) (c : FVec Ideal S512 .f32) : FVec Ideal S4x512x16x512 .f32 :=
  addf (Host.dotGeneral dot_S4x512x16x3_S3x512_S4x512x16x512_3_0_012_1_n_n none d
    (transpose S3x512 [1, 0] W transposes_S512x3_S3x512_1_0)) (bias c)

/-- A layer on the neighbours. -/
def layer (y : FVec Ideal S4x512x16x512 .f32) (W : FVec Ideal S512x512 .f32) (c : FVec Ideal S512 .f32) : FVec Ideal S4x512x16x512 .f32 :=
  addf (Host.dotGeneral dot_S4x512x16x512_S512x512_S4x512x16x512_3_0_012_1_n_n none y
    (transpose S512x512 [1, 0] W transposes_S512x512_S512x512_1_0)) (bias c)

/-- What the attention is computed from. -/
def gin (q : FVec Ideal S4x512x512 .f32) (kk pos : FVec Ideal S4x512x16x512 .f32) : FVec Ideal S4x512x16x512 .f32 :=
  addf (subf (broadcastInDim S4x512x16x512 ![0, 1, 2, 3] bcast_S4x512x1x512_S4x512x16x512_0_1_2_3
    (broadcastInDim S4x512x1x512 ![0, 1, 3] bcast_S4x512x512_S4x512x1x512_0_1_3 q)) kk) pos

/-- The logits: a layer's values divided by the scale. -/
def scaled (y : FVec Ideal S4x512x16x512 .f32) : FVec Ideal S4x512x16x512 .f32 :=
  Host.divf y (broadcastInDim S4x512x16x512 ![] bcast_S_S4x512x16x512 (Host.sqrt (constant S_ .f32 0x44000000#32)))

/-- The exponentials of the logits less their greatest. -/
def expos (l : FVec Ideal S4x512x16x512 .f32) : FVec Ideal S4x512x16x512 .f32 :=
  Host.exp (subf l (broadcastInDim S4x512x16x512 ![0, 1, 2, 3] bcast_S4x512x1x512_S4x512x16x512_0_1_2_3
    (broadcastInDim S4x512x1x512 ![0, 1, 3] bcast_S4x512x512_S4x512x1x512_0_1_3
      (maximumf (broadcastInDim S4x512x512 ![] bcast_S_S4x512x512 (constant S_ .f32 0xFF800000#32))
        (Host.reduce FloatOps.maximumf l (constant S_ .f32 0xFF800000#32) reducesTo_S4x512x16x512_S4x512x512_d2 h_S_)))))

/-- The softmax over the neighbours. -/
def softmax (l : FVec Ideal S4x512x16x512 .f32) : FVec Ideal S4x512x16x512 .f32 :=
  Host.divf (expos l) (broadcastInDim S4x512x16x512 ![0, 1, 2, 3] bcast_S4x512x1x512_S4x512x16x512_0_1_2_3
    (broadcastInDim S4x512x1x512 ![0, 1, 3] bcast_S4x512x512_S4x512x1x512_0_1_3
      (Host.reduceAdd (expos l) (constant S_ .f32 0x00000000#32) reducesTo_S4x512x16x512_S4x512x512_d2 h_S_)))

/-- The attended values. -/
def attend (a v pos : FVec Ideal S4x512x16x512 .f32) : FVec Ideal S4x512x512 .f32 :=
  Host.dotGeneral dot_S4x512x16x512_S4x512x16x512_S4x512x512_2_2_n_n_013_013 none a (addf v pos)

/-- The points' output features. -/
def outPts (r : FVec Ideal S4x512x512 .f32) (W : FVec Ideal S256x512 .f32) (c : FVec Ideal S256 .f32)
    (Y : FVec Ideal S4x512x256 .f32) : FVec Ideal S4x512x256 .f32 :=
  addf (addf (Host.dotGeneral dot_S4x512x512_S512x256_S4x512x256_2_0_01_1_n_n none r
      (transpose S512x256 [1, 0] W transposes_S256x512_S512x256_1_0))
    (broadcastInDim S4x512x256 ![0, 1, 2] bcast_S1x1x256_S4x512x256_0_1_2 (broadcastInDim S1x1x256 ![2] bcast_S256_S1x1x256_2 c))) Y

/-- The class point's hidden features. -/
def clsHidden (Y : FVec Ideal S4x1x256 .f32) (W : FVec Ideal S512x256 .f32) (c : FVec Ideal S512 .f32) : FVec Ideal S4x1x512 .f32 :=
  addf (Host.dotGeneral dot_S4x1x256_S256x512_S4x1x512_2_0_01_1_n_n none Y
      (transpose S256x512 [1, 0] W transposes_S512x256_S256x512_1_0))
    (broadcastInDim S4x1x512 ![0, 1, 2] bcast_S1x1x512_S4x1x512_0_1_2 (broadcastInDim S1x1x512 ![2] bcast_S512_S1x1x512_2 c))

/-- The class point's query. -/
def clsQuery (H : FVec Ideal S4x1x512 .f32) (W : FVec Ideal S512x512 .f32) : FVec Ideal S4x1x512 .f32 :=
  Host.dotGeneral dot_S4x1x512_S512x512_S4x1x512_2_0_01_1_n_n none H (transpose S512x512 [1, 0] W transposes_S512x512_S512x512_1_0)

/-- The class point's logits. -/
def clsLogits (q : FVec Ideal S4x1x512 .f32) (k : FVec Ideal S4x512x512 .f32) : FVec Ideal S4x1x512 .f32 :=
  Host.divf (Host.dotGeneral dot_S4x1x512_S4x512x512_S4x1x512_2_2_1_1_0_0 none q k)
    (broadcastInDim S4x1x512 ![] bcast_S_S4x1x512 (Host.sqrt (constant S_ .f32 0x44000000#32)))

/-- The exponentials of the class point's logits less their greatest. -/
def clsExpos (l : FVec Ideal S4x1x512 .f32) : FVec Ideal S4x1x512 .f32 :=
  Host.exp (subf l (broadcastInDim S4x1x512 ![0, 1, 2] bcast_S4x1x1_S4x1x512_0_1_2
    (broadcastInDim S4x1x1 ![0, 1] bcast_S4x1_S4x1x1_0_1
      (maximumf (broadcastInDim S4x1 ![] bcast_S_S4x1 (constant S_ .f32 0xFF800000#32))
        (Host.reduce FloatOps.maximumf l (constant S_ .f32 0xFF800000#32) reducesTo_S4x1x512_S4x1_d2 h_S_)))))

/-- The class point's attention. -/
def clsSoftmax (l : FVec Ideal S4x1x512 .f32) : FVec Ideal S4x1x512 .f32 :=
  Host.divf (clsExpos l) (broadcastInDim S4x1x512 ![0, 1, 2] bcast_S4x1x1_S4x1x512_0_1_2
    (broadcastInDim S4x1x1 ![0, 1] bcast_S4x1_S4x1x1_0_1
      (Host.reduceAdd (clsExpos l) (constant S_ .f32 0x00000000#32) reducesTo_S4x1x512_S4x1_d2 h_S_)))

/-- The class point's output features. -/
def clsOut (a : FVec Ideal S4x1x512 .f32) (v : FVec Ideal S4x512x512 .f32) (W : FVec Ideal S256x512 .f32) (c : FVec Ideal S256 .f32)
    (Y : FVec Ideal S4x1x256 .f32) : FVec Ideal S4x1x256 .f32 :=
  addf (addf (Host.dotGeneral dot_S4x1x512_S512x256_S4x1x256_2_0_01_1_n_n none
      (Host.dotGeneral dot_S4x1x512_S4x512x512_S4x1x512_2_1_1_2_0_0 none a v)
      (transpose S512x256 [1, 0] W transposes_S256x512_S512x256_1_0))
    (broadcastInDim S4x1x256 ![0, 1, 2] bcast_S1x1x256_S4x1x256_0_1_2 (broadcastInDim S1x1x256 ![2] bcast_S256_S1x1x256_2 c))) Y

/-- The whole cloud's output features, the class point first. -/
def joined (u : FVec Ideal S4x1x256 .f32) (w : FVec Ideal S4x512x256 .f32) : FVec Ideal S4x513x256 .f32 :=
  concatenate S4x513x256 1 [⟨S4x1x256, u⟩, ⟨S4x512x256, w⟩] concatenates_S4x1x256_S4x512x256_S4x513x256_d1

section
variable (m : (ℓ : Loc nD τ sig) → Buf (Elt Ideal) ℓ) (c : Dev nD)

/-- The neighbours' row numbers, of the arguments. -/
def rowsOf : IVec S4x512x16x1 32 := rows (order (dists (pts (m ((c.tc : Thread nD τ).loc main_arg0)))))

/-- The points' hidden features, of the arguments. -/
def hiddenOf : FVec Ideal S4x512x512 .f32 :=
  hidden (feat (m ((c.tc : Thread nD τ).loc main_arg1))) (m ((c.tc : Thread nD τ).loc main_arg2)) (m ((c.tc : Thread nD τ).loc main_arg3))

/-- The position encoding, of the arguments. -/
def posOf : FVec Ideal S4x512x16x512 .f32 :=
  layer (relu (layer3 (offsets (pts (m ((c.tc : Thread nD τ).loc main_arg0))) (rowsOf m c))
    (m ((c.tc : Thread nD τ).loc main_arg6)) (m ((c.tc : Thread nD τ).loc main_arg7))))
    (m ((c.tc : Thread nD τ).loc main_arg8)) (m ((c.tc : Thread nD τ).loc main_arg9))

/-- The attention's logits, of the arguments. -/
def logitsOf : FVec Ideal S4x512x16x512 .f32 :=
  scaled (layer (relu (layer (gin (project (hiddenOf m c) (m ((c.tc : Thread nD τ).loc main_arg14)))
      (near (project (hiddenOf m c) (m ((c.tc : Thread nD τ).loc main_arg15))) (rowsOf m c)) (posOf m c))
    (m ((c.tc : Thread nD τ).loc main_arg10)) (m ((c.tc : Thread nD τ).loc main_arg11))))
    (m ((c.tc : Thread nD τ).loc main_arg12)) (m ((c.tc : Thread nD τ).loc main_arg13)))

/-- The class point's logits, of the arguments. -/
def clsLogitsOf : FVec Ideal S4x1x512 .f32 :=
  clsLogits (clsQuery (clsHidden (clsFeat (m ((c.tc : Thread nD τ).loc main_arg1))) (m ((c.tc : Thread nD τ).loc main_arg17))
      (m ((c.tc : Thread nD τ).loc main_arg18))) (m ((c.tc : Thread nD τ).loc main_arg21)))
    (project (hiddenOf m c) (m ((c.tc : Thread nD τ).loc main_arg22)))

/-- The class point's output, of the arguments. -/
def clsOutOf : FVec Ideal S4x1x256 .f32 :=
  clsOut (clsSoftmax (clsLogitsOf m c)) (project (hiddenOf m c) (m ((c.tc : Thread nD τ).loc main_arg23)))
    (m ((c.tc : Thread nD τ).loc main_arg19)) (m ((c.tc : Thread nD τ).loc main_arg20)) (clsFeat (m ((c.tc : Thread nD τ).loc main_arg1)))

/-- The points' output, of the arguments. -/
def outPtsOf : FVec Ideal S4x512x256 .f32 :=
  outPts (attend (softmax (logitsOf m c)) (near (project (hiddenOf m c) (m ((c.tc : Thread nD τ).loc main_arg16))) (rowsOf m c)) (posOf m c))
    (m ((c.tc : Thread nD τ).loc main_arg4)) (m ((c.tc : Thread nD τ).loc main_arg5)) (feat (m ((c.tc : Thread nD τ).loc main_arg1)))

/-- The third result is the class point's softmax. -/
theorem res_cattn : Value.res_main_v127 (F := Ideal) m c = clsSoftmax (clsLogitsOf m c) := rfl

/-- The second result is the softmax over the neighbours. -/
theorem res_attn : Value.res_main_v93 (F := Ideal) m c = softmax (logitsOf m c) := rfl

/-- The first result is the class point's output and the points' output, one after the other. -/
theorem res_out : Value.res_main_v135 (F := Ideal) m c = joined (clsOutOf m c) (outPtsOf m c) := rfl

end

end Cert.Knn.Ref

end
-- ==== Proof.RefValue.lean ====
/-
  What the reference computes: each stage read at an index, with zero biases, and so its three results.
-/
module

public import proofs.«01_k».proof.Proof.RefStages
public import proofs.«01_k».proof.Proof.Arrays
public import Idealize.ShloMosaic.Lib.Routing.OpsPair

@[expose] public section

set_option maxRecDepth 16384

noncomputable section

namespace Cert.Knn.Ref

open Idealize.ShloMosaic Idealize.ShloMosaic.TcCoe Cert.ReferenceIdeal Cert.ReferenceIdeal.Gen

/-! ## The stages at an index -/

/-- A point's coordinates stand one row below. -/
theorem pts_at (X : FVec Ideal S4x513x3 .f32) (b : Fin 4) (n : Fin 512) (c : Fin 3) :
    pts X (ix3 b n c) = X (ix3 b (up n) c) := by
  unfold pts
  pointwise
  rfl

theorem feat_at (Y : FVec Ideal S4x513x256 .f32) (b : Fin 4) (n : Fin 512) (k : Fin 256) :
    feat Y (ix3 b n k) = Y (ix3 b (up n) k) := by
  unfold feat
  pointwise
  rfl

theorem clsFeat_at (Y : FVec Ideal S4x513x256 .f32) (b : Fin 4) (k : Fin 256) :
    clsFeat Y (ix3 b 0 k) = Y (ix3 b 0 k) := by
  unfold clsFeat
  pointwise

theorem lengths_at (P : FVec Ideal S4x512x3 .f32) (b : Fin 4) (n : Fin 512) :
    lengths P (ix2 b n) = ∑ c, P (ix3 b n c) * P (ix3 b n c) := by
  unfold lengths
  pointwise

theorem dists_at (P : FVec Ideal S4x512x3 .f32) (b : Fin 4) (n j : Fin 512) :
    dists P (ix3 b n j) = (∑ c, P (ix3 b n c) * P (ix3 b n c)) + (∑ c, P (ix3 b j c) * P (ix3 b j c))
      - two * ∑ c, P (ix3 b n c) * P (ix3 b j c) := by
  rw [← lengths_at, ← lengths_at]
  unfold dists
  generalize lengths P = L
  pointwise
  rfl

theorem order_at (D : FVec Ideal S4x512x512 .f32) (b : Fin 4) (n : Fin 512) (k : Fin 16) :
    order D (ix3 b n k) = BitVec.ofNat 32 (sortedFrom (nearer fun j => D (ix3 b n j)) (k.castLE (by decide))).val := by
  have h := sorted_columns D (iotaInDim S4x512x512 32 2) b n (k.castLE (by decide))
  unfold order
  generalize (Host.sort2 S4x512x512 2 (comparator_f32_i32_d2 (F := Ideal)) D (iotaInDim S4x512x512 32 2)).2 = S at h ⊢
  pointwise
  exact h

theorem rows_at (J : IVec S4x512x16 32) (b : Fin 4) (n : Fin 512) (k : Fin 16) (i : Fin 512)
    (h : J (ix3 b n k) = BitVec.ofNat 32 i.val) : rows J (ix4 b n k 0) = BitVec.ofNat 32 i.val := by
  unfold rows
  pointwise
  rw [h]
  refine Routing.wrap_of_lt _ _ ?_
  have := i.isLt
  rw [BitVec.toNat_ofNat, Nat.mod_eq_of_lt (by omega)]
  omega

theorem hidden_at (Y : FVec Ideal S4x512x256 .f32) (W : FVec Ideal S512x256 .f32) (c : FVec Ideal S512 .f32)
    (hc : IsZero c) (b : Fin 4) (n f : Fin 512) : hidden Y W c (ix3 b n f) = ∑ k, Y (ix3 b n k) * W (ix2 f k) := by
  unfold hidden
  pointwise
  rw [hc _, add_zero]

theorem project_at (H : FVec Ideal S4x512x512 .f32) (W : FVec Ideal S512x512 .f32) (b : Fin 4) (n f : Fin 512) :
    project H W (ix3 b n f) = ∑ e, H (ix3 b n e) * W (ix2 f e) := by
  unfold project
  pointwise

theorem near_at (T : FVec Ideal S4x512x512 .f32) (R : IVec S4x512x16x1 32) (b : Fin 4) (n : Fin 512) (k : Fin 16) (f : Fin 512)
    (i : Fin 512) (h : R (ix4 b n k 0) = BitVec.ofNat 32 i.val) : near T R (ix4 b n k f) = T (ix3 b i f) :=
  gather_rows _ T R b n k f i h

theorem offsets_at (P : FVec Ideal S4x512x3 .f32) (R : IVec S4x512x16x1 32) (b : Fin 4) (n : Fin 512) (k : Fin 16) (c : Fin 3)
    (i : Fin 512) (h : R (ix4 b n k 0) = BitVec.ofNat 32 i.val) :
    offsets P R (ix4 b n k c) = P (ix3 b n c) - P (ix3 b i c) := by
  have hg := gather_rows gather_S4x512x3_S4x512x16x1_S4x512x16x3_3_1_0_0_1_3_113_wf P R b n k c i h
  rw [← hg]
  unfold offsets
  change (subf _ (Host.gather (rowsDims 3 gather_S4x512x3_S4x512x16x1_S4x512x16x3_3_1_0_0_1_3_113_wf) P R) : FVec Ideal S4x512x16x3 .f32) _ = _
  generalize (Host.gather (rowsDims 3 gather_S4x512x3_S4x512x16x1_S4x512x16x3_3_1_0_0_1_3_113_wf) P R : FVec Ideal S4x512x16x3 .f32) = G
  pointwise

theorem bias_at (c : FVec Ideal S512 .f32) (b : Fin 4) (n : Fin 512) (k : Fin 16) (f : Fin 512) : bias c (ix4 b n k f) = c (ix1 f) := by
  unfold bias
  pointwise

theorem relu_at (y : FVec Ideal S4x512x16x512 .f32) (b : Fin 4) (n : Fin 512) (k : Fin 16) (f : Fin 512) :
    relu y (ix4 b n k f) = max (y (ix4 b n k f)) 0 := by
  unfold relu
  pointwise

theorem layer3_at (d : FVec Ideal S4x512x16x3 .f32) (W : FVec Ideal S512x3 .f32) (c : FVec Ideal S512 .f32) (hc : IsZero c)
    (b : Fin 4) (n : Fin 512) (k : Fin 16) (f : Fin 512) : layer3 d W c (ix4 b n k f) = ∑ e, d (ix4 b n k e) * W (ix2 f e) := by
  have hb := bias_at c b n k f
  unfold layer3
  generalize bias c = B at hb ⊢
  pointwise
  rw [hb, hc _, add_zero]

theorem layer_at (d : FVec Ideal S4x512x16x512 .f32) (W : FVec Ideal S512x512 .f32) (c : FVec Ideal S512 .f32) (hc : IsZero c)
    (b : Fin 4) (n : Fin 512) (k : Fin 16) (f : Fin 512) : layer d W c (ix4 b n k f) = ∑ e, d (ix4 b n k e) * W (ix2 f e) := by
  have hb := bias_at c b n k f
  unfold layer
  generalize bias c = B at hb ⊢
  pointwise
  rw [hb, hc _, add_zero]

theorem gin_at (q : FVec Ideal S4x512x512 .f32) (kk pos : FVec Ideal S4x512x16x512 .f32) (b : Fin 4) (n : Fin 512) (k : Fin 16) (f : Fin 512) :
    gin q kk pos (ix4 b n k f) = q (ix3 b n f) - kk (ix4 b n k f) + pos (ix4 b n k f) := by
  unfold gin
  pointwise

theorem scaled_at (y : FVec Ideal S4x512x16x512 .f32) (b : Fin 4) (n : Fin 512) (k : Fin 16) (f : Fin 512) :
    scaled y (ix4 b n k f) = Ideal.div (y (ix4 b n k f)) scale := by
  unfold scaled
  pointwise
  rfl

theorem peaks_at (l : FVec Ideal S4x512x16x512 .f32) (b : Fin 4) (n f : Fin 512) :
    (Host.reduce FloatOps.maximumf l (constant S_ .f32 0xFF800000#32) reducesTo_S4x512x16x512_S4x512x512_d2 h_S_ : FVec Ideal S4x512x512 .f32) (ix3 b n f) = peak fun i => l (ix4 b n i f) := by
  pointwise
  rw [word_bot]
  unfold peak
  rfl

theorem tops_at (M : FVec Ideal S4x512x512 .f32) (b : Fin 4) (n : Fin 512) (k : Fin 16) (f : Fin 512) :
    (broadcastInDim S4x512x16x512 ![0, 1, 2, 3] bcast_S4x512x1x512_S4x512x16x512_0_1_2_3
      (broadcastInDim S4x512x1x512 ![0, 1, 3] bcast_S4x512x512_S4x512x1x512_0_1_3 M) : FVec Ideal S4x512x16x512 .f32) (ix4 b n k f) = M (ix3 b n f) := by
  pointwise

theorem greatest_at (M : FVec Ideal S4x512x512 .f32) (b : Fin 4) (n f : Fin 512) :
    (maximumf (broadcastInDim S4x512x512 ![] bcast_S_S4x512x512 (constant S_ .f32 0xFF800000#32)) M : FVec Ideal S4x512x512 .f32) (ix3 b n f) = M (ix3 b n f) := by
  pointwise
  rw [word_bot, bot_max]

theorem exp_at (l T : FVec Ideal S4x512x16x512 .f32) (b : Fin 4) (n : Fin 512) (k : Fin 16) (f : Fin 512) :
    (Host.exp (subf l T) : FVec Ideal S4x512x16x512 .f32) (ix4 b n k f) = Ideal.exp (l (ix4 b n k f) - T (ix4 b n k f)) := by
  pointwise

theorem expos_at (l : FVec Ideal S4x512x16x512 .f32) (b : Fin 4) (n : Fin 512) (k : Fin 16) (f : Fin 512) :
    expos l (ix4 b n k f) = expo (fun i => l (ix4 b n i f)) k := by
  unfold expos expo
  rw [exp_at, tops_at, greatest_at, peaks_at]

theorem softmax_at (l : FVec Ideal S4x512x16x512 .f32) (b : Fin 4) (n : Fin 512) (k : Fin 16) (f : Fin 512) :
    softmax l (ix4 b n k f) = Knn.softmax (fun i => l (ix4 b n i f)) k := by
  have he := fun i => expos_at l b n i f
  unfold softmax
  generalize expos l = E at he ⊢
  pointwise
  simp only [he]
  rfl

theorem attend_at (a v pos : FVec Ideal S4x512x16x512 .f32) (b : Fin 4) (n f : Fin 512) :
    attend a v pos (ix3 b n f) = ∑ k : Fin 16, a (ix4 b n k f) * (v (ix4 b n k f) + pos (ix4 b n k f)) := by
  unfold attend
  pointwise

theorem outPts_at (r : FVec Ideal S4x512x512 .f32) (W : FVec Ideal S256x512 .f32) (c : FVec Ideal S256 .f32) (Y : FVec Ideal S4x512x256 .f32)
    (hc : IsZero c) (b : Fin 4) (n : Fin 512) (o : Fin 256) :
    outPts r W c Y (ix3 b n o) = (∑ f, r (ix3 b n f) * W (ix2 o f)) + Y (ix3 b n o) := by
  unfold outPts
  pointwise
  rw [hc _, add_zero]

theorem clsHidden_at (Y : FVec Ideal S4x1x256 .f32) (W : FVec Ideal S512x256 .f32) (c : FVec Ideal S512 .f32) (hc : IsZero c)
    (b : Fin 4) (f : Fin 512) : clsHidden Y W c (ix3 b 0 f) = ∑ k, Y (ix3 b 0 k) * W (ix2 f k) := by
  unfold clsHidden
  pointwise
  rw [hc _, add_zero]

theorem clsQuery_at (H : FVec Ideal S4x1x512 .f32) (W : FVec Ideal S512x512 .f32) (b : Fin 4) (f : Fin 512) :
    clsQuery H W (ix3 b 0 f) = ∑ e, H (ix3 b 0 e) * W (ix2 f e) := by
  unfold clsQuery
  pointwise

theorem clsLogits_at (q : FVec Ideal S4x1x512 .f32) (k : FVec Ideal S4x512x512 .f32) (b : Fin 4) (n : Fin 512) :
    clsLogits q k (ix3 b 0 n) = Ideal.div (∑ f, q (ix3 b 0 f) * k (ix3 b n f)) scale := by
  unfold clsLogits
  pointwise
  rfl

theorem clsExpos_at (l : FVec Ideal S4x1x512 .f32) (b : Fin 4) (n : Fin 512) :
    clsExpos l (ix3 b 0 n) = expo (fun i => l (ix3 b 0 i)) n := by
  unfold clsExpos
  pointwise
  rw [word_bot, bot_max]
  rfl

theorem clsSoftmax_at (l : FVec Ideal S4x1x512 .f32) (b : Fin 4) (n : Fin 512) :
    clsSoftmax l (ix3 b 0 n) = Knn.softmax (fun i => l (ix3 b 0 i)) n := by
  have he := clsExpos_at l b
  unfold clsSoftmax
  generalize clsExpos l = E at he ⊢
  pointwise
  simp only [he]
  rfl

theorem clsOut_at (a : FVec Ideal S4x1x512 .f32) (v : FVec Ideal S4x512x512 .f32) (W : FVec Ideal S256x512 .f32) (c : FVec Ideal S256 .f32)
    (Y : FVec Ideal S4x1x256 .f32) (hc : IsZero c) (b : Fin 4) (o : Fin 256) :
    clsOut a v W c Y (ix3 b 0 o) = (∑ f, (∑ n, a (ix3 b 0 n) * v (ix3 b n f)) * W (ix2 o f)) + Y (ix3 b 0 o) := by
  unfold clsOut
  pointwise
  rw [hc _, add_zero]

theorem joined_at (u : FVec Ideal S4x1x256 .f32) (w : FVec Ideal S4x512x256 .f32) (b : Fin 4) (r : Fin 513) (o : Fin 256) :
    joined u w (ix3 b r o) = if h : r.val < 1 then u (ix3 b 0 o) else w (ix3 b ⟨r.val - 1, by omega⟩ o) := by
  unfold joined
  pointwise
  by_cases h : r.val < 1
  · rw [dif_pos h, dif_pos h, show (⟨r.val, h⟩ : Fin 1) = 0 from Subsingleton.elim _ _]
  · rw [dif_neg h, dif_neg h]

/-! ## The results, of the arguments -/

section
variable (m : (ℓ : Loc nD τ sig) → Buf (Elt Ideal) ℓ) (c : Dev nD)

/-- The reference's arguments. -/
def argsOf : Args :=
  Args.of (m ((c.tc : Thread nD τ).loc main_arg0)) (m ((c.tc : Thread nD τ).loc main_arg1)) (m ((c.tc : Thread nD τ).loc main_arg2))
    (m ((c.tc : Thread nD τ).loc main_arg4)) (m ((c.tc : Thread nD τ).loc main_arg6)) (m ((c.tc : Thread nD τ).loc main_arg8))
    (m ((c.tc : Thread nD τ).loc main_arg10)) (m ((c.tc : Thread nD τ).loc main_arg12)) (m ((c.tc : Thread nD τ).loc main_arg14))
    (m ((c.tc : Thread nD τ).loc main_arg15)) (m ((c.tc : Thread nD τ).loc main_arg16)) (m ((c.tc : Thread nD τ).loc main_arg17))
    (m ((c.tc : Thread nD τ).loc main_arg19)) (m ((c.tc : Thread nD τ).loc main_arg21)) (m ((c.tc : Thread nD τ).loc main_arg22))
    (m ((c.tc : Thread nD τ).loc main_arg23))

/-- The eight biases are zero. -/
structure Unbiased : Prop where
  fc1 : IsZero (n := 512) (m ((c.tc : Thread nD τ).loc main_arg3))
  fc2 : IsZero (n := 256) (m ((c.tc : Thread nD τ).loc main_arg5))
  fcd1 : IsZero (n := 512) (m ((c.tc : Thread nD τ).loc main_arg7))
  fcd2 : IsZero (n := 512) (m ((c.tc : Thread nD τ).loc main_arg9))
  fcg1 : IsZero (n := 512) (m ((c.tc : Thread nD τ).loc main_arg11))
  fcg2 : IsZero (n := 512) (m ((c.tc : Thread nD τ).loc main_arg13))
  fc1c : IsZero (n := 512) (m ((c.tc : Thread nD τ).loc main_arg18))
  fc2c : IsZero (n := 256) (m ((c.tc : Thread nD τ).loc main_arg20))

/-- The rows that the reference gathers are the nearest points. -/
theorem rowsOf_at (b : Fin 4) (n : Fin 512) (k : Fin 16) : rowsOf m c (ix4 b n k 0) = BitVec.ofNat 32 ((argsOf m c).nbr b n k).val := by
  unfold rowsOf
  refine rows_at _ b n k _ ((order_at _ b n k).trans ?_)
  have hd : (fun j => dists (pts (m ((c.tc : Thread nD τ).loc main_arg0))) (ix3 b n j)) = (argsOf m c).dist b n := by
    funext j
    rw [dists_at]
    simp only [pts_at]
    rfl
  rw [hd]
  rfl

variable {m c} (hz : Unbiased m c)
include hz

/-- The points' hidden features. -/
theorem hiddenOf_at (b : Fin 4) (n f : Fin 512) : hiddenOf m c (ix3 b n f) = (argsOf m c).x b n f := by
  unfold hiddenOf
  rw [hidden_at _ _ _ hz.fc1]
  simp only [feat_at]
  rfl

/-- A linear layer without bias over the points' hidden features. -/
theorem projectOf_at (W : FVec Ideal S512x512 .f32) (b : Fin 4) (n f : Fin 512) :
    project (hiddenOf m c) W (ix3 b n f) = ∑ e, (argsOf m c).x b n e * W (ix2 f e) := by
  rw [project_at]
  simp only [hiddenOf_at hz]

/-- The same layer, read at a point's neighbours. -/
theorem nearOf_at (W : FVec Ideal S512x512 .f32) (b : Fin 4) (n : Fin 512) (k : Fin 16) (f : Fin 512) :
    near (project (hiddenOf m c) W) (rowsOf m c) (ix4 b n k f) = ∑ e, (argsOf m c).x b ((argsOf m c).nbr b n k) e * W (ix2 f e) := by
  rw [near_at _ _ b n k f _ (rowsOf_at m c b n k), projectOf_at hz]

/-- The position encoding. -/
theorem posOf_at (b : Fin 4) (n : Fin 512) (k : Fin 16) (f : Fin 512) : posOf m c (ix4 b n k f) = (argsOf m c).pos b n k f := by
  unfold posOf
  rw [layer_at _ _ _ hz.fcd2]
  simp only [relu_at, layer3_at _ _ _ hz.fcd1, offsets_at _ _ b n k _ _ (rowsOf_at m c b n k), pts_at]
  rfl

/-- The logits. -/
theorem logitsOf_at (b : Fin 4) (n : Fin 512) (k : Fin 16) (f : Fin 512) : logitsOf m c (ix4 b n k f) = (argsOf m c).logit b n f k := by
  unfold logitsOf
  rw [scaled_at, layer_at _ _ _ hz.fcg2]
  simp only [relu_at, layer_at _ _ _ hz.fcg1, gin_at, projectOf_at hz, nearOf_at hz, posOf_at hz]
  rfl

/-- The second result is the attention. -/
theorem attn_at (b : Fin 4) (n : Fin 512) (k : Fin 16) (f : Fin 512) :
    softmax (logitsOf m c) (ix4 b n k f) = (argsOf m c).attn b n f k := by
  rw [softmax_at]
  simp only [logitsOf_at hz]
  rfl

/-- The points' output. -/
theorem outPtsOf_at (b : Fin 4) (n : Fin 512) (o : Fin 256) : outPtsOf m c (ix3 b n o) = (argsOf m c).out b n o := by
  unfold outPtsOf
  rw [outPts_at _ _ _ _ hz.fc2]
  simp only [attend_at, attn_at hz, nearOf_at hz, posOf_at hz, feat_at]
  rfl

/-- The class point's logits. -/
theorem clsLogitsOf_at (b : Fin 4) (n : Fin 512) : clsLogitsOf m c (ix3 b 0 n) = (argsOf m c).clogit b n := by
  unfold clsLogitsOf
  rw [clsLogits_at]
  simp only [clsQuery_at, clsHidden_at _ _ _ hz.fc1c, clsFeat_at, projectOf_at hz]
  rfl

/-- The third result is the class point's attention. -/
theorem cattn_at (b : Fin 4) (n : Fin 512) : clsSoftmax (clsLogitsOf m c) (ix3 b 0 n) = (argsOf m c).cattn b n := by
  rw [clsSoftmax_at]
  simp only [clsLogitsOf_at hz]
  rfl

/-- The class point's output. -/
theorem clsOutOf_at (b : Fin 4) (o : Fin 256) : clsOutOf m c (ix3 b 0 o) = (argsOf m c).cout b o := by
  unfold clsOutOf
  rw [clsOut_at _ _ _ _ _ hz.fc2c]
  simp only [cattn_at hz, projectOf_at hz, clsFeat_at]
  rfl

/-- The first result is the whole cloud's output features. -/
theorem outs_at (b : Fin 4) (r : Fin 513) (o : Fin 256) :
    joined (clsOutOf m c) (outPtsOf m c) (ix3 b r o) = (argsOf m c).outs b r o := by
  rw [joined_at]
  simp only [clsOutOf_at hz, outPtsOf_at hz]
  rfl

end

end Cert.Knn.Ref

end
-- ==== Proof.Equal.lean ====
/-
  The two programs' results are equal: the kernel's arrays and the reference's, element by element, are the same functions of the arguments.
-/
module

public import proofs.«01_k».proof.Proof.Pre
public import proofs.«01_k».proof.Proof.LaunchB
public import proofs.«01_k».proof.Proof.RefValue

@[expose] public section

set_option maxRecDepth 16384

noncomputable section

namespace Cert.Knn

open Idealize.ShloMosaic Idealize.ShloMosaic.TcCoe

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- The two memories hold the same arguments. -/
def Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
  ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
  ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
  ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
  ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
  ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
  ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
  ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
  ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
  ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
  ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)

variable {m m' c}

/-- Memories that agree give the same arguments. -/
theorem args_eq (h : Agree m m' c) : Ref.argsOf m' c = Ker.argsOf m c := by
  obtain ⟨h0, h1, h2, h3, h4, h5, h6, h7, h8, h9, h10, h11, h12, h13, h14, h15, h16, h17, h18, h19, h20, h21, h22, h23⟩ := h
  unfold Ref.argsOf Ker.argsOf
  rw [h0, h1, h2, h4, h6, h8, h10, h12, h14, h15, h16, h17, h19, h21, h22, h23]

/-- Memories that agree have the same biases. -/
theorem unbiased (h : Agree m m' c) (hz : Pre.Unbiased m c) : Ref.Unbiased m' c := by
  obtain ⟨h0, h1, h2, h3, h4, h5, h6, h7, h8, h9, h10, h11, h12, h13, h14, h15, h16, h17, h18, h19, h20, h21, h22, h23⟩ := h
  refine ⟨?_, ?_, ?_, ?_, ?_, ?_, ?_, ?_⟩
  · rw [h3]; exact hz.fc1
  · rw [h5]; exact hz.fc2
  · rw [h7]; exact hz.fcd1
  · rw [h9]; exact hz.fcd2
  · rw [h11]; exact hz.fcg1
  · rw [h13]; exact hz.fcg2
  · rw [h18]; exact hz.fc1c
  · rw [h20]; exact hz.fc2c

variable (h : Agree m m' c) (hA : (Ker.argsOf m c).Regular) (hz : Pre.Unbiased m c)
include h hA hz

/-- The first result: the class point's output row and the points' output rows. -/
theorem outs_eq : (Cert.ReferenceIdeal.Value.res_main_v135 (F := Ideal) m' c : FVec Ideal ⟨3, ![4, 513, 256]⟩ .f32)
    = Cert.KernelIdeal.Gen.W5 m ρ c Cert.KernelIdeal.main_v44 := by
  rw [Ref.res_out]
  refine funext fun y => ?_
  idx_vars y
  exact ((Ref.outs_at (unbiased h hz) _ _ _).trans (by rw [args_eq h])).trans (Ker.result_outs m ρ c hA _ _ _).symm

/-- The second result: the attention over the neighbours. -/
theorem attn_eq : (Cert.ReferenceIdeal.Value.res_main_v93 (F := Ideal) m' c : FVec Ideal ⟨4, ![4, 512, 16, 512]⟩ .f32)
    = Cert.KernelIdeal.Gen.W5 m ρ c Cert.KernelIdeal.main_v43_0 := by
  rw [Ref.res_attn]
  refine funext fun y => ?_
  idx_vars y
  exact ((Ref.attn_at (unbiased h hz) _ _ _ _).trans (by rw [args_eq h])).trans (Ker.result_attn m ρ c hA _ _ _ _).symm

omit hA in
/-- The third result: the class point's attention. -/
theorem cattn_eq : (Cert.ReferenceIdeal.Value.res_main_v127 (F := Ideal) m' c : FVec Ideal ⟨3, ![4, 1, 512]⟩ .f32)
    = Cert.KernelIdeal.Gen.W5 m ρ c Cert.KernelIdeal.main_v33_5 := by
  rw [Ref.res_cattn]
  refine funext fun y => ?_
  idx_vars y
  obtain rfl : y1 = 0 := Subsingleton.elim _ _
  exact ((Ref.cattn_at (unbiased h hz) _ _).trans (by rw [args_eq h])).trans (Ker.result_cattn m ρ c _ _).symm

end Cert.Knn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.Gen.Pre_regular
public import proofs.«01_k».proof.Proof.KernelRun
public import proofs.«01_k».proof.Proof.Equal
public import Idealize.ShloMosaic.Adequacy
public import Idealize.ShloMosaic.Init

@[expose] public section

noncomputable section

namespace Cert.Proof

open Idealize.ShloMosaic Idealize.ShloMosaic.TcCoe Idealize.SL.Sem

set_option maxRecDepth 16384 in
/-- The reference terminates from every memory, leaves its arguments as they were and every semaphore at zero. -/
theorem reference_frame : Cert.quiescent_ReferenceIdeal (hReferenceIdeal := Cert.ReferenceIdeal.Gen.facts) :=
  fun m ρ _ => (θ_run Cert.ReferenceIdeal.defs _ _).mono
    (fun r h => ⟨fun c => (h c).2.2.2, sem_eq_zero_of_no_sems (by decide) r.2⟩)
    (Cert.ReferenceIdeal.Value.run m ρ)

set_option maxRecDepth 16384 in
/-- The idealized kernel and the idealized reference leave the same three results, from memories that hold the same arguments. -/
theorem value : Cert.algebraic_KernelIdeal_ReferenceIdeal (hKernelIdeal := Cert.KernelIdeal.Gen.facts)
    (hReferenceIdeal := Cert.ReferenceIdeal.Gen.facts) (hPre_regular := Cert.Pre_regular.Gen.facts) := by
  intro m g m' g' hpre hagree
  refine ⟨fun c => Cert.KernelIdeal.Gen.W5 m g c Cert.KernelIdeal.main_v44, fun c => Cert.KernelIdeal.Gen.W5 m g c Cert.KernelIdeal.main_v43_0,
    fun c => Cert.KernelIdeal.Gen.W5 m g c Cert.KernelIdeal.main_v33_5, ?_, ?_⟩
  · refine (θ_run Cert.KernelIdeal.defs _ _).mono (fun r h c => ?_) (Cert.Knn.Ker.run m g)
    exact ⟨h c _ (Cert.KernelIdeal.Gen.mem_uc Cert.KernelIdeal.main_v44 (by decide)),
      h c _ (Cert.KernelIdeal.Gen.mem_uc Cert.KernelIdeal.main_v43_0 (by decide)),
      h c _ (Cert.KernelIdeal.Gen.mem_uc Cert.KernelIdeal.main_v33_5 (by decide)),
      (h c _ (Cert.KernelIdeal.Gen.mem_uc Cert.KernelIdeal.main_arg0 (by decide))).trans (Cert.KernelIdeal.Gen.W5_main_arg0 m g c),
      (h c _ (Cert.KernelIdeal.Gen.mem_uc Cert.KernelIdeal.main_arg1 (by decide))).trans (Cert.KernelIdeal.Gen.W5_main_arg1 m g c),
      (h c _ (Cert.KernelIdeal.Gen.mem_uc Cert.KernelIdeal.main_arg2 (by decide))).trans (Cert.KernelIdeal.Gen.W5_main_arg2 m g c),
      (h c _ (Cert.KernelIdeal.Gen.mem_uc Cert.KernelIdeal.main_arg3 (by decide))).trans (Cert.KernelIdeal.Gen.W5_main_arg3 m g c),
      (h c _ (Cert.KernelIdeal.Gen.mem_uc Cert.KernelIdeal.main_arg4 (by decide))).trans (Cert.KernelIdeal.Gen.W5_main_arg4 m g c),
      (h c _ (Cert.KernelIdeal.Gen.mem_uc Cert.KernelIdeal.main_arg5 (by decide))).trans (Cert.KernelIdeal.Gen.W5_main_arg5 m g c),
      (h c _ (Cert.KernelIdeal.Gen.mem_uc Cert.KernelIdeal.main_arg6 (by decide))).trans (Cert.KernelIdeal.Gen.W5_main_arg6 m g c),
      (h c _ (Cert.KernelIdeal.Gen.mem_uc Cert.KernelIdeal.main_arg7 (by decide))).trans (Cert.KernelIdeal.Gen.W5_main_arg7 m g c),
      (h c _ (Cert.KernelIdeal.Gen.mem_uc Cert.KernelIdeal.main_arg8 (by decide))).trans (Cert.KernelIdeal.Gen.W5_main_arg8 m g c),
      (h c _ (Cert.KernelIdeal.Gen.mem_uc Cert.KernelIdeal.main_arg9 (by decide))).trans (Cert.KernelIdeal.Gen.W5_main_arg9 m g c),
      (h c _ (Cert.KernelIdeal.Gen.mem_uc Cert.KernelIdeal.main_arg10 (by decide))).trans (Cert.KernelIdeal.Gen.W5_main_arg10 m g c),
      (h c _ (Cert.KernelIdeal.Gen.mem_uc Cert.KernelIdeal.main_arg11 (by decide))).trans (Cert.KernelIdeal.Gen.W5_main_arg11 m g c),
      (h c _ (Cert.KernelIdeal.Gen.mem_uc Cert.KernelIdeal.main_arg12 (by decide))).trans (Cert.KernelIdeal.Gen.W5_main_arg12 m g c),
      (h c _ (Cert.KernelIdeal.Gen.mem_uc Cert.KernelIdeal.main_arg13 (by decide))).trans (Cert.KernelIdeal.Gen.W5_main_arg13 m g c),
      (h c _ (Cert.KernelIdeal.Gen.mem_uc Cert.KernelIdeal.main_arg14 (by decide))).trans (Cert.KernelIdeal.Gen.W5_main_arg14 m g c),
      (h c _ (Cert.KernelIdeal.Gen.mem_uc Cert.KernelIdeal.main_arg15 (by decide))).trans (Cert.KernelIdeal.Gen.W5_main_arg15 m g c),
      (h c _ (Cert.KernelIdeal.Gen.mem_uc Cert.KernelIdeal.main_arg16 (by decide))).trans (Cert.KernelIdeal.Gen.W5_main_arg16 m g c),
      (h c _ (Cert.KernelIdeal.Gen.mem_uc Cert.KernelIdeal.main_arg17 (by decide))).trans (Cert.KernelIdeal.Gen.W5_main_arg17 m g c),
      (h c _ (Cert.KernelIdeal.Gen.mem_uc Cert.KernelIdeal.main_arg18 (by decide))).trans (Cert.KernelIdeal.Gen.W5_main_arg18 m g c),
      (h c _ (Cert.KernelIdeal.Gen.mem_uc Cert.KernelIdeal.main_arg19 (by decide))).trans (Cert.KernelIdeal.Gen.W5_main_arg19 m g c),
      (h c _ (Cert.KernelIdeal.Gen.mem_uc Cert.KernelIdeal.main_arg20 (by decide))).trans (Cert.KernelIdeal.Gen.W5_main_arg20 m g c),
      (h c _ (Cert.KernelIdeal.Gen.mem_uc Cert.KernelIdeal.main_arg21 (by decide))).trans (Cert.KernelIdeal.Gen.W5_main_arg21 m g c),
      (h c _ (Cert.KernelIdeal.Gen.mem_uc Cert.KernelIdeal.main_arg22 (by decide))).trans (Cert.KernelIdeal.Gen.W5_main_arg22 m g c),
      (h c _ (Cert.KernelIdeal.Gen.mem_uc Cert.KernelIdeal.main_arg23 (by decide))).trans (Cert.KernelIdeal.Gen.W5_main_arg23 m g c)⟩
  · refine (θ_run Cert.ReferenceIdeal.defs _ _).mono (fun r h c => ?_) (Cert.ReferenceIdeal.Value.run m' g')
    obtain ⟨hA, hz⟩ := Cert.Knn.Pre.regular_unbiased hpre c
    have ha : Cert.Knn.Agree m m' c := hagree c
    exact ⟨(h c).1.trans (Cert.Knn.outs_eq g ha hA hz), (h c).2.1.trans (Cert.Knn.attn_eq g ha hA hz),
      (h c).2.2.1.trans (Cert.Knn.cattn_eq g ha hz), (h c).2.2.2⟩

/-- Every claim of the certificate. -/
theorem claim : Cert.Claim := ⟨Cert.Kernel.Gen.facts, Cert.KernelIdeal.Gen.facts, Cert.ReferenceIdeal.Gen.facts, Cert.Pre_regular.Gen.facts,
  fun m ρ _ => Cert.Kernel.Gen.frame m ρ,
  fun m ρ _ => Cert.Kernel.Gen.frame m ρ,
  fun m ρ _ => Cert.KernelIdeal.Gen.frame m ρ,
  reference_frame,
  fun m ρ _ => reference_frame m ρ trivial,
  trivial,
  value⟩

end Cert.Proof

end
